-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_labels_in_range_output_finite [hPre_labels_in_range_output_finite : Cert.Pre_labels_in_range_output_finite.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range_output_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_labels_in_range_output_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range_output_finite [hPre_labels_in_range_output_finite : Cert.Pre_labels_in_range_output_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range_output_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_labels_in_range_output_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_labels_in_range_output_finite [hKernelIdeal : Cert.KernelIdeal.Facts] [hPre_labels_in_range_output_finite : Cert.Pre_labels_in_range_output_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range_output_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_in_range_output_finite [hReferenceIdeal : Cert.ReferenceIdeal.Facts] [hPre_labels_in_range_output_finite : Cert.Pre_labels_in_range_output_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range_output_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "c_uniq" .f32 0xBE7BACD0#32 ((Real.log ((Real.sqrt (Real.sqrt (Real.sqrt (Real.sqrt ((7549747 / 67108864) * (Real.sqrt ((7549747 / 67108864) * (Real.sqrt ((7549747 / 67108864) * (Real.sqrt (Real.sqrt (Real.sqrt ((7549747 / 67108864) * (Real.sqrt ((7549747 / 67108864) * (Real.sqrt (Real.sqrt (Real.sqrt ((7549747 / 67108864) * (Real.sqrt ((7549747 / 67108864) * (Real.sqrt (Real.sqrt (Real.sqrt ((7549747 / 67108864) * (Real.sqrt ((7549747 / 67108864) * (Real.sqrt (Real.sqrt (Real.sqrt ((7549747 / 67108864) * (Real.sqrt ((7549747 / 67108864) * (Real.sqrt (Real.sqrt (Real.sqrt ((7549747 / 67108864) * (Real.sqrt (7549747 / 67108864))))))))))))))))))))))))))))))))))))))) * (Real.sqrt (Real.sqrt (Real.sqrt (Real.sqrt (Real.sqrt (Real.sqrt (Real.sqrt (Real.sqrt (Real.sqrt (Real.sqrt (Real.sqrt (Real.sqrt (Real.sqrt (Real.sqrt (Real.sqrt (Real.sqrt (Real.sqrt (Real.sqrt (Real.sqrt (Real.sqrt ((8796797 / 8796093022208) * (Real.sqrt (Real.sqrt (Real.sqrt (Real.sqrt (Real.sqrt ((8796797 / 8796093022208) * (Real.sqrt ((8796797 / 8796093022208) * (Real.sqrt (Real.sqrt (Real.sqrt (Real.sqrt ((8796797 / 8796093022208) * (Real.sqrt ((8796797 / 8796093022208) * (Real.sqrt ((8796797 / 8796093022208) * (Real.sqrt (Real.sqrt ((8796797 / 8796093022208) * (Real.sqrt (Real.sqrt (Real.sqrt ((8796797 / 8796093022208) * (Real.sqrt ((8796797 / 8796093022208) * (Real.sqrt ((8796797 / 8796093022208) * (Real.sqrt ((8796797 / 8796093022208) * (Real.sqrt ((8796797 / 8796093022208) * (Real.sqrt (Real.sqrt (8796797 / 8796093022208))))))))))))))))))))))))))))))))))))))))))))))))))))))))⁻¹) : ℝ) : EReal)
  ∧ IdealRules.named_const.Statement Cert.KernelIdeal.κ "c_ent" .f32 0xC330DA07#32 (((27489990625 / 2147483648) * (Real.log (8796797 / 8796093022208)) : ℝ) : EReal)
  ∧ IdealRules.named_const.Statement Cert.KernelIdeal.κ "hi_less_base" .f32 0x3DE665E0#32 ((989551641987 / 8796093022208 : ℝ) : EReal)

def algebraic_KernelIdeal_ReferenceIdeal_pre_labels_in_range_output_finite [hKernelIdeal : Cert.KernelIdeal.Facts] [hReferenceIdeal : Cert.ReferenceIdeal.Facts] [hPre_labels_in_range_output_finite : Cert.Pre_labels_in_range_output_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range_output_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_labels_in_range_output_finite : Cert.Pre_labels_in_range_output_finite.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_labels_in_range_output_finite (hKernelIdeal := hKernelIdeal) (hPre_labels_in_range_output_finite := hPre_labels_in_range_output_finite)
    ∧ quiescent_ReferenceIdeal (hReferenceIdeal := hReferenceIdeal)
    ∧ quiescent_ReferenceIdeal_pre_labels_in_range_output_finite (hReferenceIdeal := hReferenceIdeal) (hPre_labels_in_range_output_finite := hPre_labels_in_range_output_finite)
    ∧ preserves_Kernel_KernelIdeal
    ∧ algebraic_KernelIdeal_ReferenceIdeal_pre_labels_in_range_output_finite (hKernelIdeal := hKernelIdeal) (hReferenceIdeal := hReferenceIdeal) (hPre_labels_in_range_output_finite := hPre_labels_in_range_output_finite)
-- ==== Pre_labels_in_range.lean ====
abbrev S_ : Shape := ⟨0, ![]⟩
abbrev S128x100000 : Shape := ⟨2, ![128, 100000]⟩
abbrev S128x8 : Shape := ⟨2, ![128, 8]⟩

class Facts : Prop where
  bcast_S_S128x8 : S_.BroadcastsInDim S128x8 (![] : Fin 0 → Fin S128x8.rank)

variable [Facts]

def fn {F : FTy → Type} [FloatOps F] (main_arg0 : IVec S_ 32) (main_arg1 : FVec F S128x100000 .f32) (main_arg2 : FVec F S128x100000 .f32) (main_arg3 : IVec S128x8 32) : IVec S128x8 1 :=
  let main_c : IVec S_ 32 := constantI S_ 32 0#32
  let main_v0 : IVec S128x8 32 := broadcastInDim S128x8 ![] bcast_S_S128x8 main_c
  let main_v1 : IVec S128x8 1 := cmpi .sge main_arg3 main_v0
  let main_c_0 : IVec S_ 32 := constantI S_ 32 100000#32
  let main_v2 : IVec S128x8 32 := broadcastInDim S128x8 ![] bcast_S_S128x8 main_c_0
  let main_v3 : IVec S128x8 1 := cmpi .slt main_arg3 main_v2
  let main_v4 : IVec S128x8 1 := andi main_v1 main_v3
  main_v4
-- ==== Pre_labels_in_range_output_finite.lean ====
abbrev S_ : Shape := ⟨0, ![]⟩
abbrev S128x100000 : Shape := ⟨2, ![128, 100000]⟩
abbrev S128x8 : Shape := ⟨2, ![128, 8]⟩

class Facts : Prop where
  bcast_S_S128x8 : S_.BroadcastsInDim S128x8 (![] : Fin 0 → Fin S128x8.rank)
  bcast_S_S128x100000 : S_.BroadcastsInDim S128x100000 (![] : Fin 0 → Fin S128x100000.rank)

variable [Facts]

def fn {F : FTy → Type} [FloatOps F] (main_arg0 : IVec S_ 32) (main_arg1 : FVec F S128x100000 .f32) (main_arg2 : FVec F S128x100000 .f32) (main_arg3 : IVec S128x8 32) : IVec S128x8 1 × IVec S128x100000 1 :=
  let main_c : IVec S_ 32 := constantI S_ 32 0#32
  let main_v0 : IVec S128x8 32 := broadcastInDim S128x8 ![] bcast_S_S128x8 main_c
  let main_v1 : IVec S128x8 1 := cmpi .sge main_arg3 main_v0
  let main_c_0 : IVec S_ 32 := constantI S_ 32 100000#32
  let main_v2 : IVec S128x8 32 := broadcastInDim S128x8 ![] bcast_S_S128x8 main_c_0
  let main_v3 : IVec S128x8 1 := cmpi .slt main_arg3 main_v2
  let main_v4 : IVec S128x8 1 := andi main_v1 main_v3
  let main_v5 : FVec F S128x100000 .f32 := Host.absf main_arg1
  let main_cst : FVec F S_ .f32 := constant S_ .f32 0x7F800000#32
  let main_v6 : FVec F S128x100000 .f32 := broadcastInDim S128x100000 ![] bcast_S_S128x100000 main_cst
  let main_v7 : IVec S128x100000 1 := cmpf .olt main_v5 main_v6
  (main_v4, main_v7)
-- ==== Kernel.lean ====
abbrev S_ : Shape := ⟨0, ![]⟩
abbrev S128x100000 : Shape := ⟨2, ![128, 100000]⟩
abbrev S128x8 : Shape := ⟨2, ![128, 8]⟩
abbrev S100000x128 : Shape := ⟨2, ![100000, 128]⟩
abbrev S12800000 : Shape := ⟨1, ![12800000]⟩
abbrev S1024 : Shape := ⟨1, ![1024]⟩
abbrev S32x16 : Shape := ⟨2, ![32, 16]⟩
abbrev S32 : Shape := ⟨1, ![32]⟩
abbrev S16 : Shape := ⟨1, ![16]⟩
abbrev S1 : Shape := ⟨1, ![1]⟩
abbrev S1x16 : Shape := ⟨2, ![1, 16]⟩
abbrev S1x1 : Shape := ⟨2, ![1, 1]⟩
abbrev S5000x128 : Shape := ⟨2, ![5000, 128]⟩
abbrev S8x128 : Shape := ⟨2, ![8, 128]⟩
abbrev S625x8x128 : Shape := ⟨3, ![625, 8, 128]⟩
abbrev S1x8x128 : Shape := ⟨3, ![1, 8, 128]⟩
abbrev S1x1x1 : Shape := ⟨3, ![1, 1, 1]⟩
abbrev S1x32x16 : Shape := ⟨3, ![1, 32, 16]⟩

abbrev nBuf : Table → Nat
  | .hbm => 11
  | .local .tc .vmem => 6
  | .local .tc .smem => 1
  | .local .scVector .vmem => 5
  | _ => 0

abbrev bufTy : (tb : Table) → Fin (nBuf tb) → BufTy
  | .hbm, ⟨0, _⟩ => ⟨S_, .i32⟩
  | .hbm, ⟨1, _⟩ => ⟨S128x100000, .f32⟩
  | .hbm, ⟨2, _⟩ => ⟨S128x100000, .f32⟩
  | .hbm, ⟨3, _⟩ => ⟨S128x8, .i32⟩
  | .hbm, ⟨4, _⟩ => ⟨S100000x128, .f32⟩
  | .hbm, ⟨5, _⟩ => ⟨S12800000, .f32⟩
  | .hbm, ⟨6, _⟩ => ⟨S1024, .i32⟩
  | .hbm, ⟨7, _⟩ => ⟨S32x16, .f32⟩
  | .hbm, ⟨8, _⟩ => ⟨S32x16, .f32⟩
  | .hbm, ⟨9, _⟩ => ⟨S1x1, .f32⟩
  | .hbm, ⟨10, _⟩ => ⟨S_, .f32⟩
  | .local .tc .vmem, ⟨0, _⟩ => ⟨S32x16, .f32⟩
  | .local .tc .vmem, ⟨1, _⟩ => ⟨S32x16, .f32⟩
  | .local .tc .vmem, ⟨2, _⟩ => ⟨S5000x128, .f32⟩
  | .local .tc .vmem, ⟨3, _⟩ => ⟨S5000x128, .f32⟩
  | .local .tc .vmem, ⟨4, _⟩ => ⟨S5000x128, .f32⟩
  | .local .tc .vmem, ⟨5, _⟩ => ⟨S5000x128, .f32⟩
  | .local .tc .smem, ⟨0, _⟩ => ⟨S1x1, .f32⟩
  | .local .scVector .vmem, ⟨0, _⟩ => ⟨S32, .i32⟩
  | .local .scVector .vmem, ⟨1, _⟩ => ⟨S32, .i32⟩
  | .local .scVector .vmem, ⟨2, _⟩ => ⟨S32, .f32⟩
  | .local .scVector .vmem, ⟨3, _⟩ => ⟨S16, .f32⟩
  | .local .scVector .vmem, ⟨4, _⟩ => ⟨S16, .f32⟩
  | _, _ => ⟨S_, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v2_scv : Ref sig .scVector := ⟨.hbm, 6, rfl⟩
abbrev main_v1_scv : Ref sig .scVector := ⟨.hbm, 5, rfl⟩
abbrev main_v3_0_scv : Ref sig .scVector := ⟨.hbm, 7, rfl⟩
abbrev main_v3_1_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_scratch0 : Ref sig .tc := ⟨.vmem, 2, rfl⟩
abbrev cc1_scratch1 : Ref sig .tc := ⟨.vmem, 3, rfl⟩
abbrev cc1_scratch2 : Ref sig .tc := ⟨.vmem, 4, rfl⟩
abbrev cc1_scratch3 : Ref sig .tc := ⟨.vmem, 5, rfl⟩
abbrev cc1_stg2_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem1_0 : DmaSem sig := 5
abbrev cc1_sem2_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_82_r1 : BitVec 32 := 0#32
  ![v1.toNat, 0]
abbrev grid1 : Pipeline.Grid := .none

abbrev stage1_0 : Fin 1 → Memref sig .tc .vmem S32x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "c_ent" => some (((27489990625 / 2147483648) * (Real.log (8796797 / 8796093022208)) : ℝ) : EReal)
  | "c_uniq" => some ((Real.log ((Real.sqrt (Real.sqrt (Real.sqrt (Real.sqrt ((7549747 / 67108864) * (Real.sqrt ((7549747 / 67108864) * (Real.sqrt ((7549747 / 67108864) * (Real.sqrt (Real.sqrt (Real.sqrt ((7549747 / 67108864) * (Real.sqrt ((7549747 / 67108864) * (Real.sqrt (Real.sqrt (Real.sqrt ((7549747 / 67108864) * (Real.sqrt ((7549747 / 67108864) * (Real.sqrt (Real.sqrt (Real.sqrt ((7549747 / 67108864) * (Real.sqrt ((7549747 / 67108864) * (Real.sqrt (Real.sqrt (Real.sqrt ((7549747 / 67108864) * (Real.sqrt ((7549747 / 67108864) * (Real.sqrt (Real.sqrt (Real.sqrt ((7549747 / 67108864) * (Real.sqrt (7549747 / 67108864))))))))))))))))))))))))))))))))))))))) * (Real.sqrt (Real.sqrt (Real.sqrt (Real.sqrt (Real.sqrt (Real.sqrt (Real.sqrt (Real.sqrt (Real.sqrt (Real.sqrt (Real.sqrt (Real.sqrt (Real.sqrt (Real.sqrt (Real.sqrt (Real.sqrt (Real.sqrt (Real.sqrt (Real.sqrt (Real.sqrt ((8796797 / 8796093022208) * (Real.sqrt (Real.sqrt (Real.sqrt (Real.sqrt (Real.sqrt ((8796797 / 8796093022208) * (Real.sqrt ((8796797 / 8796093022208) * (Real.sqrt (Real.sqrt (Real.sqrt (Real.sqrt ((8796797 / 8796093022208) * (Real.sqrt ((8796797 / 8796093022208) * (Real.sqrt ((8796797 / 8796093022208) * (Real.sqrt (Real.sqrt ((8796797 / 8796093022208) * (Real.sqrt (Real.sqrt (Real.sqrt ((8796797 / 8796093022208) * (Real.sqrt ((8796797 / 8796093022208) * (Real.sqrt ((8796797 / 8796093022208) * (Real.sqrt ((8796797 / 8796093022208) * (Real.sqrt ((8796797 / 8796093022208) * (Real.sqrt (Real.sqrt (8796797 / 8796093022208))))))))))))))))))))))))))))))))))))))))))))))))))))))))⁻¹) : ℝ) : EReal)
  | "hi_less_base" => some ((989551641987 / 8796093022208 : ℝ) : EReal)
  | _ => none
-- ==== ReferenceIdeal.lean ====
abbrev S_ : Shape := ⟨0, ![]⟩
abbrev S128x100000 : Shape := ⟨2, ![128, 100000]⟩
abbrev S128x8 : Shape := ⟨2, ![128, 8]⟩
abbrev S128 : Shape := ⟨1, ![128]⟩
abbrev S128x1 : Shape := ⟨2, ![128, 1]⟩
abbrev S128x8x1 : Shape := ⟨3, ![128, 8, 1]⟩
abbrev S128x8x2 : Shape := ⟨3, ![128, 8, 2]⟩

abbrev nBuf : Space → Nat
  | .hbm => 40
  | .vmem => 0
  | .smem => 0
  | _ => 0

abbrev bufTy : (tb : Table) → Fin (tcTables nBuf tb) → BufTy
  | .hbm, ⟨0, _⟩ => ⟨S_, .i32⟩
  | .hbm, ⟨1, _⟩ => ⟨S128x100000, .f32⟩
  | .hbm, ⟨2, _⟩ => ⟨S128x100000, .f32⟩
  | .hbm, ⟨3, _⟩ => ⟨S128x8, .i32⟩
  | .hbm, ⟨4, _⟩ => ⟨S_, .f32⟩
  | .hbm, ⟨5, _⟩ => ⟨S128x100000, .f32⟩
  | .hbm, ⟨6, _⟩ => ⟨S128, .i32⟩
  | .hbm, ⟨7, _⟩ => ⟨S128x1, .i32⟩
  | .hbm, ⟨8, _⟩ => ⟨S_, .i32⟩
  | .hbm, ⟨9, _⟩ => ⟨S128x1, .i32⟩
  | .hbm, ⟨10, _⟩ => ⟨S128x1, .i1⟩
  | .hbm, ⟨11, _⟩ => ⟨S_, .i32⟩
  | .hbm, ⟨12, _⟩ => ⟨S128x1, .i32⟩
  | .hbm, ⟨13, _⟩ => ⟨S128x1, .i32⟩
  | .hbm, ⟨14, _⟩ => ⟨S128x1, .i32⟩
  | .hbm, ⟨15, _⟩ => ⟨S_, .i32⟩
  | .hbm, ⟨16, _⟩ => ⟨S128x8, .i32⟩
  | .hbm, ⟨17, _⟩ => ⟨S128x8, .i1⟩
  | .hbm, ⟨18, _⟩ => ⟨S_, .i32⟩
  | .hbm, ⟨19, _⟩ => ⟨S128x8, .i32⟩
  | .hbm, ⟨20, _⟩ => ⟨S128x8, .i32⟩
  | .hbm, ⟨21, _⟩ => ⟨S128x8, .i32⟩
  | .hbm, ⟨22, _⟩ => ⟨S128x8, .i32⟩
  | .hbm, ⟨23, _⟩ => ⟨S128x8x1, .i32⟩
  | .hbm, ⟨24, _⟩ => ⟨S128x8x1, .i32⟩
  | .hbm, ⟨25, _⟩ => ⟨S128x8x2, .i32⟩
  | .hbm, ⟨26, _⟩ => ⟨S_, .f32⟩
  | .hbm, ⟨27, _⟩ => ⟨S128x8, .f32⟩
  | .hbm, ⟨28, _⟩ => ⟨S128x100000, .f32⟩
  | .hbm, ⟨29, _⟩ => ⟨S_, .f32⟩
  | .hbm, ⟨30, _⟩ => ⟨S_, .f32⟩
  | .hbm, ⟨31, _⟩ => ⟨S128x100000, .f32⟩
  | .hbm, ⟨32, _⟩ => ⟨S128x100000, .f32⟩
  | .hbm, ⟨33, _⟩ => ⟨S128x100000, .f32⟩
  | .hbm, ⟨34, _⟩ => ⟨S128x100000, .f32⟩
  | .hbm, ⟨35, _⟩ => ⟨S128x100000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Proof.Setup.lean ====
/-
  What every run of the program shares: the program as the launch theorem sees it, the resource algebra of the proof
  (the SparseCore handshakes' rounds, the rounds of the TensorCore region's pipeline, the counters of the transfers), and
  the names of the buffers the proof speaks of.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem
open Idealize.ShloMosaic.Rounds

variable {F : FTy → Type} [FloatOps F] [Named F]

/-! ## The program -/

/-- The labels of the TensorCore side: the bodies' and the pipelined region's. -/
abbrev ΛP : Labels := Pipeline.Sig Λ₀ (Fin 1) fun p => (pcfgs (F := F) p).Adm
/-- The one SparseCore call. -/
abbrev K : SparseCore.Cfg τ sig (ΛP (F := F)) 1 := sc (F := F)
/-- The bodies and the region, below the SparseCore call. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' semaphores are four of the program's, none of them scoped where it is waited on. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

/-- The handshakes' rounds; -/
abbrev UH : Type := URounds (GSem nD τ sig) ℕ
/-- the rounds of the region's pipeline; -/
abbrev UP : Type := URounds (GSem nD τ sig) Unit
/-- and all ghost state: those two and the transfers' counters. -/
abbrev UU : Type := UH × (UP × Counters)

/-- What assertions are about. -/
abbrev MM (F : FTy → Type) : Type := MT nD τ sig (HIx 1) (Elt F) ℕ UU ℕ

/-- The handshakes' rounds are the first component of the ghost state, -/
abbrev EH : Emb UH (MM F) := embL

/-- the pipeline's the second. -/
def EP : Emb UP (MM F) := (Emb.inl : Emb UP (UP × Counters)).trans embR

instance EP_landsIn : (EP : Emb UP (MM F)).LandsIn (upEmb : UEmb _ (MM F)) := by unfold EP embR; infer_instance

end Cert.Proof
-- ==== Proof.Sum.lean ====
/-
  The TensorCore's body: it copies the output, transposed, in twenty blocks of 5000 rows through four buffers, adds each
  block up into an 8×128 accumulator, and stores one scalar. The post states the scalar.
-/
module

public import Idealize.ShloMosaic.Lib.WritesUnit
public import proofs.«01_k».proof.Proof.Setup

@[expose] public section

noncomputable section

namespace Cert.Proof

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

/-! ## What the body computes -/

/-- Rows 5000 k to 5000 k + 4999 of the transposed output. -/
def block (Y : FVec F S100000x128 .f32) (k : Fin 20) : FVec F S5000x128 .f32 := fun p =>
  Y fun | 0 => ⟨5000 * k.val + (p 0).val, by
            have h : (p 0).val < 5000 := (p 0).isLt
            have := k.isLt
            show _ < 100000; omega⟩
        | 1 => p 1
        | ⟨_ + 2, h⟩ => absurd h (Nat.not_lt.2 (Nat.le_add_left _ _))

/-- The accumulator after nineteen blocks. -/
def acc19 (Y : FVec F S100000x128 .f32) : FVec F S8x128 .f32 :=
  k1_pay6 (k1_pay5 (k1_pay4 (k1_pay3 (k1_pay2 (block Y 0) (block Y 1) (block Y 2)) (block Y 3) (block Y 4) (block Y 5) (block Y 6))
      (block Y 7) (block Y 8) (block Y 9) (block Y 10)) (block Y 11) (block Y 12) (block Y 13) (block Y 14))
    (block Y 15) (block Y 16) (block Y 17) (block Y 18)

/-- The scalar the body stores. -/
def total (Y : FVec F S100000x128 .f32) (g u : FVec F S32x16 .f32) : F .f32 :=
  k1_pay1 (acc19 Y) (k1_pay7 (block Y 19)) g u

/-! ## The body's operands -/

abbrev yV : Memref sig .tc .hbm S100000x128 .f32 := Memref.whole main_v0
abbrev gS : Memref sig .tc .vmem S32x16 .f32 := Memref.whole cc1_stg0_0
abbrev uS : Memref sig .tc .vmem S32x16 .f32 := Memref.whole cc1_stg1_0
abbrev oS : Memref sig .tc .smem S1x1 .f32 := Memref.whole cc1_stg2_0
abbrev b0 : Memref sig .tc .vmem S5000x128 .f32 := Memref.whole cc1_scratch0
abbrev b1 : Memref sig .tc .vmem S5000x128 .f32 := Memref.whole cc1_scratch1
abbrev b2 : Memref sig .tc .vmem S5000x128 .f32 := Memref.whole cc1_scratch2
abbrev b3 : Memref sig .tc .vmem S5000x128 .f32 := Memref.whole cc1_scratch3

variable (c : Dev nD)

/-- A buffer of the TensorCore whole at some contents. -/
abbrev some' {sp : Space} {s : Shape} {e : EltTy} (M : Memref sig .tc sp s e) : sProp 𝕄 :=
  iprop(∃ f : Buf (Elt F) (M.view.loc (c : Thread nD τ)), M.view.loc (c : Thread nD τ) ↦{fullShare} f)

/-- A buffer read back whole holds the block the copy left in it. -/
theorem load_copied {sp : Space} (v : View sig .tc sp S5000x128 .f32) (f : v.ty.Contents (Elt F)) (p : FVec F S5000x128 .f32) :
    View.readAt (Elt F) v (Rect.unit (s := S5000x128) ![0, 0] S5000x128.size inb_S5000x128_S5000x128_0_0).toLoadRect
      (View.write (Elt F) v f p Finset.univ) = p := by
  refine Eq.trans ?_ (View.read_write_univ f p)
  funext y
  exact congrArg (v.read (Elt F) _) (funext fun a => Fin.ext (by
    match a with
    | 0 => show 0 + 1 * (y 0).val = (y 0).val; omega
    | 1 => show 0 + 1 * (y 1).val = (y 1).val; omega))

/-- What the copy of block `k` carries. -/
theorem copied (Y : FVec F S100000x128 .f32) (k : Fin 20) {o : ℕ} (ho : o = 5000 * k.val)
    (inb : ∀ a, (![o, 0] : Fin 2 → ℕ) a + S5000x128.size a ≤ S100000x128.size a) (hs) :
    View.read (Elt F) (yV.slice (Rect.unit (s := S100000x128) ![o, 0] S5000x128.size inb) hs).view Y = block Y k := by
  subst ho
  funext p
  show Y _ = Y _
  congr 1
  funext a
  match a with
  | 0 => exact Fin.ext (by show 5000 * k.val + 1 * (p 0).val = 5000 * k.val + (p 0).val; omega)
  | 1 => exact Fin.ext (by show 0 + 1 * (p 1).val = (p 1).val; omega)

/-- A staging buffer loaded whole. -/
theorem load_stage {sp : Space} (v : View sig .tc sp S32x16 .f32) (g : v.ty.Contents (Elt F)) :
    View.readAt (Elt F) v (Rect.unit (s := S32x16) ![0, 0] ![32, 16] inb_S32x16_S32x16_0_0).toLoadRect g = View.read (Elt F) v g := by
  funext y
  exact congrArg (v.read (Elt F) _) (funext fun a => Fin.ext (by
    match a with
    | 0 => show 0 + 1 * (y 0).val = (y 0).val; omega
    | 1 => show 0 + 1 * (y 1).val = (y 1).val; omega))

/-- The one element stored. -/
theorem stored (f : oS.view.ty.Contents (Elt F)) (x : F .f32) :
    oS.view.writes (Elt F) f [⟨Rect.unit (s := S1x1) ![0, 0] ![1, 1] inb_S1x1_S1x1_0_0, fun _ => x⟩] = fun _ => x := by
  funext y
  refine (congrFun (View.read_whole (Val := Elt F) cc1_stg2_0 _) y).symm.trans ?_
  exact View.read_writes_cons_unit_of_mem (off := ![0, 0]) oS.view f inb_S1x1_S1x1_0_0 (fun _ => x) [] y y rfl (fun a => by
    match a with
    | 0 => show (y 0).val = 0 + (y 0).val; omega
    | 1 => show (y 1).val = 0 + (y 1).val; omega)

set_option maxHeartbeats 4000000 in
theorem sum_body (Y : FVec F S100000x128 .f32) (g u : FVec F S32x16 .f32) (W : Waits sig (HIx 1)) :
    iprop((yV.view.loc (c : Thread nD τ) ↦{fullShare} (Y : Buf (Elt F) (yV.view.loc (c : Thread nD τ))))
        ∗ (gS.view.loc (c : Thread nD τ) ↦{fullShare} (g : Buf (Elt F) (gS.view.loc (c : Thread nD τ))))
        ∗ (uS.view.loc (c : Thread nD τ) ↦{fullShare} (u : Buf (Elt F) (uS.view.loc (c : Thread nD τ))))
        ∗ some' c oS ∗ some' c b0 ∗ some' c b1 ∗ some' c b2 ∗ some' c b3
        ∗ semVal ((c : Thread nD τ), SemLoc.dma (cc1_scratch4).sem) 0 ∗ semVal ((c : Thread nD τ), SemLoc.dma (cc1_scratch5).sem) 0 ∗ semVal ((c : Thread nD τ), SemLoc.dma (cc1_scratch6).sem) 0 ∗ semVal ((c : Thread nD τ), SemLoc.dma (cc1_scratch7).sem) 0
        ∗ owes (c : Thread nD τ) 0 W)
      ⊢ wp frame (wpE (defs₀ (F := F)) 𝒱₀ (c : Thread nD τ) none) Set.univ
          (cc1_body yV (Memref.isWhole_whole _) gS (Memref.isWhole_whole _) uS (Memref.isWhole_whole _) oS (Memref.isWhole_whole _)
            b0 (Memref.isWhole_whole _) b1 (Memref.isWhole_whole _) b2 (Memref.isWhole_whole _) b3 (Memref.isWhole_whole _)
            cc1_scratch4 cc1_scratch5 cc1_scratch6 cc1_scratch7)
          fun _ => iprop((yV.view.loc (c : Thread nD τ) ↦{fullShare} (Y : Buf (Elt F) (yV.view.loc (c : Thread nD τ))))
            ∗ (gS.view.loc (c : Thread nD τ) ↦{fullShare} (g : Buf (Elt F) (gS.view.loc (c : Thread nD τ))))
            ∗ (uS.view.loc (c : Thread nD τ) ↦{fullShare} (u : Buf (Elt F) (uS.view.loc (c : Thread nD τ))))
            ∗ (oS.view.loc (c : Thread nD τ) ↦{fullShare} ((fun _ => total Y g u) : Buf (Elt F) (oS.view.loc (c : Thread nD τ))))
            ∗ some' c b0 ∗ some' c b1 ∗ some' c b2 ∗ some' c b3
            ∗ semVal ((c : Thread nD τ), SemLoc.dma (cc1_scratch4).sem) 0 ∗ semVal ((c : Thread nD τ), SemLoc.dma (cc1_scratch5).sem) 0 ∗ semVal ((c : Thread nD τ), SemLoc.dma (cc1_scratch6).sem) 0 ∗ semVal ((c : Thread nD τ), SemLoc.dma (cc1_scratch7).sem) 0
            ∗ ∃ W', ⌜∀ p ∈ W', p ∈ W ∨ p.2 = none⌝ ∗ owes (c : Thread nD τ) 0 W') := by
  simp only [cc1_body_eq_skeleton]; unfold cc1_body_skel
  simp only [k1_part1_eq_skeleton, k1_part2_eq_skeleton, k1_part3_eq_skeleton, k1_part4_eq_skeleton, k1_part5_eq_skeleton]
  unfold k1_part1_skel k1_part2_skel k1_part3_skel k1_part4_skel k1_part5_skel
  iintro ⟨Hy, Hg, Hu, ⟨%fo, Ho⟩, ⟨%f0, H0⟩, ⟨%f1, H1⟩, ⟨%f2, H2⟩, ⟨%f3, H3⟩, S0, S1, S2, S3, HO⟩
  ihave Hy := (Entails.of_eq (show (View.loc (c : Thread nD τ) (View.whole main_v0) ↦{fullShare} Y : sProp 𝕄) = yV.view.loc (c : Thread nD τ) ↦{fullShare} Y from rfl)) $$ Hy
  ihave Hg := (Entails.of_eq (show (View.loc (c : Thread nD τ) (View.whole cc1_stg0_0) ↦{fullShare} g : sProp 𝕄) = gS.view.loc (c : Thread nD τ) ↦{fullShare} g from rfl)) $$ Hg
  ihave Hu := (Entails.of_eq (show (View.loc (c : Thread nD τ) (View.whole cc1_stg1_0) ↦{fullShare} u : sProp 𝕄) = uS.view.loc (c : Thread nD τ) ↦{fullShare} u from rfl)) $$ Hu
  sl_exec
  sl_step
  repeat rw [load_copied]
  rw [stored]
  rw [show sum_body.sl.v78 c Y f0 = sum_body.sl.dma9 Y from load_copied _ _ _]
  rw [show sum_body.sl.v84 c Y f1 = sum_body.sl.dma10 Y from load_copied _ _ _]
  rw [show sum_body.sl.v90 c Y f2 = sum_body.sl.dma11 Y from load_copied _ _ _]
  rw [show sum_body.sl.v96 c Y f3 = sum_body.sl.dma12 Y from load_copied _ _ _]
  rw [show sum_body.sl.v102 c Y f0 = sum_body.sl.dma13 Y from load_copied _ _ _]
  rw [show sum_body.sl.v107 c Y f1 = sum_body.sl.dma14 Y from load_copied _ _ _]
  rw [show sum_body.sl.v112 c Y f2 = sum_body.sl.dma15 Y from load_copied _ _ _]
  rw [show sum_body.sl.v117 c Y f3 = sum_body.sl.dma16 Y from load_copied _ _ _]
  rw [load_stage, load_stage, show View.read (Elt F) gS.view g = g from View.read_whole _ _, show View.read (Elt F) uS.view u = u from View.read_whole _ _]
  have ht : k1_pay1
      (k1_pay6 (k1_pay5 (k1_pay4 (k1_pay3 (k1_pay2 (sum_body.sl.dma0 Y) (sum_body.sl.dma0_1 Y) (sum_body.sl.dma0_2 Y))
        (sum_body.sl.dma0_3 Y) (sum_body.sl.dma1 Y) (sum_body.sl.dma2 Y) (sum_body.sl.dma3 Y))
        (sum_body.sl.dma4 Y) (sum_body.sl.dma5 Y) (sum_body.sl.dma6 Y) (sum_body.sl.dma7 Y))
        (sum_body.sl.dma8 Y) (sum_body.sl.dma9 Y) (sum_body.sl.dma10 Y) (sum_body.sl.dma11 Y))
        (sum_body.sl.dma12 Y) (sum_body.sl.dma13 Y) (sum_body.sl.dma14 Y) (sum_body.sl.dma15 Y))
      (k1_pay7 (sum_body.sl.dma16 Y)) g u = total Y g u := by
    unfold total acc19
    rw [show sum_body.sl.dma0 Y = block Y 0 from copied Y 0 rfl _ _, show sum_body.sl.dma0_1 Y = block Y 1 from copied Y 1 rfl _ _,
      show sum_body.sl.dma0_2 Y = block Y 2 from copied Y 2 rfl _ _, show sum_body.sl.dma0_3 Y = block Y 3 from copied Y 3 rfl _ _,
      show sum_body.sl.dma1 Y = block Y 4 from copied Y 4 rfl _ _,
      show sum_body.sl.dma2 Y = block Y 5 from copied Y 5 rfl _ _,
      show sum_body.sl.dma3 Y = block Y 6 from copied Y 6 rfl _ _,
      show sum_body.sl.dma4 Y = block Y 7 from copied Y 7 rfl _ _,
      show sum_body.sl.dma5 Y = block Y 8 from copied Y 8 rfl _ _,
      show sum_body.sl.dma6 Y = block Y 9 from copied Y 9 rfl _ _,
      show sum_body.sl.dma7 Y = block Y 10 from copied Y 10 rfl _ _,
      show sum_body.sl.dma8 Y = block Y 11 from copied Y 11 rfl _ _,
      show sum_body.sl.dma9 Y = block Y 12 from copied Y 12 rfl _ _,
      show sum_body.sl.dma10 Y = block Y 13 from copied Y 13 rfl _ _,
      show sum_body.sl.dma11 Y = block Y 14 from copied Y 14 rfl _ _,
      show sum_body.sl.dma12 Y = block Y 15 from copied Y 15 rfl _ _,
      show sum_body.sl.dma13 Y = block Y 16 from copied Y 16 rfl _ _,
      show sum_body.sl.dma14 Y = block Y 17 from copied Y 17 rfl _ _,
      show sum_body.sl.dma15 Y = block Y 18 from copied Y 18 rfl _ _,
      show sum_body.sl.dma16 Y = block Y 19 from copied Y 19 rfl _ _]
  ihave Ho := (Entails.of_eq (show (oS.view.loc (c : Thread nD τ) ↦{fullShare} ((fun _ => k1_pay1
      (k1_pay6 (k1_pay5 (k1_pay4 (k1_pay3 (k1_pay2 (sum_body.sl.dma0 Y) (sum_body.sl.dma0_1 Y) (sum_body.sl.dma0_2 Y))
        (sum_body.sl.dma0_3 Y) (sum_body.sl.dma1 Y) (sum_body.sl.dma2 Y) (sum_body.sl.dma3 Y))
        (sum_body.sl.dma4 Y) (sum_body.sl.dma5 Y) (sum_body.sl.dma6 Y) (sum_body.sl.dma7 Y))
        (sum_body.sl.dma8 Y) (sum_body.sl.dma9 Y) (sum_body.sl.dma10 Y) (sum_body.sl.dma11 Y))
        (sum_body.sl.dma12 Y) (sum_body.sl.dma13 Y) (sum_body.sl.dma14 Y) (sum_body.sl.dma15 Y))
      (k1_pay7 (sum_body.sl.dma16 Y)) g u) : Buf (Elt F) (oS.view.loc (c : Thread nD τ))) : sProp 𝕄)
      = oS.view.loc (c : Thread nD τ) ↦{fullShare} ((fun _ => total Y g u) : Buf (Elt F) (oS.view.loc (c : Thread nD τ))) from by rw [ht])) $$ Ho
  isplitl [Hy]; · iexact Hy
  isplitl [Hg]; · iexact Hg
  isplitl [Hu]; · iexact Hu
  isplitl [Ho]; · iexact Ho
  isplitl [H0]; · iexists _; iexact H0
  isplitl [H1]; · iexists _; iexact H1
  isplitl [H2]; · iexists _; iexact H2
  isplitl [H3]; · iexists _; iexact H3
  isplitl [S0]; · iexact S0
  isplitl [S1]; · iexact S1
  isplitl [S2]; · iexact S2
  isplitl [S3]; · iexact S3
  iexists _
  isplitr; swap; · iexact HO
  ipureintro
  intro p hp
  simp only [Finset.mem_insert] at hp
  rcases hp with h | h | h | h | h | h | h | h | h | h | h | h | h | h | h | h | h | h | h | h | h
  all_goals first | exact Or.inl h | exact Or.inr (congrArg Prod.snd h)

end Cert.Proof
-- ==== Proof.Region.lean ====
/-
  The TensorCore's region of @main: the pipeline that stages the two tables the tiles wrote, runs the body of `Sum.lean`
  once, and writes the scalar back. Stated around four arrays: the transposed output, the two tables, the scalar.
-/
module

public import Idealize.ShloMosaic.Lib.Pipeline.Regions
public import Idealize.ShloMosaic.Lib.Pipeline.RegionArrays
public import Idealize.ShloMosaic.Lib.Pipeline.Value
public import proofs.«01_k».proof.Proof.Gen.KernelIdeal.Launch
public import proofs.«01_k».proof.Proof.Gen.KernelIdeal.Points
public import proofs.«01_k».proof.Proof.Sum

@[expose] public section

noncomputable section

namespace Cert.Proof

open Cert.KernelIdeal Cert.KernelIdeal.Gen
open Idealize.ShloMosaic Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

/-! ## The proof data -/

variable (Y : Dev nD → FVec F S100000x128 .f32) (g u : Dev nD → FVec F S32x16 .f32) (o : Dev nD → FVec F S1x1 .f32)

/-- The body's own semaphores, one per buffer. -/
def osem : Fin 4 → SemLoc sig := fun
  | 0 => .dma cc1_scratch4.sem | 1 => .dma cc1_scratch5.sem | 2 => .dma cc1_scratch6.sem | 3 => .dma cc1_scratch7.sem
  | ⟨_ + 4, h⟩ => absurd h (Nat.not_lt.2 (Nat.le_add_left _ _))

theorem ownSemFacts : Pipeline.OwnSemFacts spec1 osem := by decide

/-- The four at zero. -/
abbrev sems0 (c : Dev nD) : sProp 𝕄 :=
  iprop(semVal ((c : Thread nD τ), SemLoc.dma cc1_scratch4.sem) 0 ∗ semVal ((c : Thread nD τ), SemLoc.dma cc1_scratch5.sem) 0
    ∗ semVal ((c : Thread nD τ), SemLoc.dma cc1_scratch6.sem) 0 ∗ semVal ((c : Thread nD τ), SemLoc.dma cc1_scratch7.sem) 0)

theorem ownSems0_eq (c : Dev nD) :
    (Pipeline.ownSems0 (Ix := HIx 1) (Name := ℕ) (U := UU) (Lvl := ℕ) (Val := Elt F) (τ := τ) osem c : sProp 𝕄) = sems0 c :=
  Pipeline.ownSems0_eq_of_list c osem [0, 1, 2, 3] (by decide) (by decide)

/-- The transposed output whole. -/
abbrev yPts (c : Dev nD) : sProp 𝕄 :=
  yV.view.loc (c : Thread nD τ) ↦{fullShare} (Y c : Buf (Elt F) (yV.view.loc (c : Thread nD τ)))

/-- What the body keeps beside its windows: the transposed output, its semaphores at zero, its four buffers. -/
abbrev inv (c : Dev nD) : sProp 𝕄 :=
  iprop(yPts Y c ∗ sems0 c ∗ some' c b0 ∗ some' c b1 ∗ some' c b2 ∗ some' c b3)

/-- The waits the TensorCore has made by then, all at the levels the SparseCore call leaves. -/
abbrev low (c : Dev nD) : Set (SemLoc sig × HIx 1) := {p | (K (F := F)).lev ((c : Thread nD τ), p.1) p.2 ≤ 8}

/-- The pipeline's proof data: the arrays at entry, and the staging buffers after the body. -/
def dat (c : Dev nD) : Dat τ (Elt F) (HIx 1) ℕ UU ℕ cfg1 c where
  A w := match w with
    | ⟨0, _⟩ => (g c : Buf (Elt F) ((cfg1.win 0).arr.view.loc (c : Thread nD τ)))
    | ⟨1, _⟩ => (u c : Buf (Elt F) ((cfg1.win 1).arr.view.loc (c : Thread nD τ)))
    | ⟨2, _⟩ => (o c : Buf (Elt F) ((cfg1.win 2).arr.view.loc (c : Thread nD τ)))
  after w _ := match w with
    | ⟨0, _⟩ => g c
    | ⟨1, _⟩ => u c
    | ⟨2, _⟩ => fun _ => total (Y c) (g c) (u c)
  Φ _ := inv Y c
  q _ := fullShare
  owed _ := 0
  recorded _ := low (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c :=
  fun _ c => dat Y g u o c

/-- The window of the first table stages it whole, -/
theorem before_g (c : Dev nD) (d : (cfg1.win 0).block.Idx → Elt F (cfg1.win 0).elt) : (dat Y g u o c).before 0 t1_0 d = g c := by
  unfold Dat.before; rw [if_pos (fetch1_0 _)]
  funext p
  show (g c : FVec F S32x16 .f32) _ = g c p
  congr 1
  funext a
  match a with
  | 0 => exact Fin.ext (by show 0 + 1 * (p 0).val = (p 0).val; omega)
  | 1 => exact Fin.ext (by show 0 + 1 * (p 1).val = (p 1).val; omega)

/-- and so does the second's. -/
theorem before_u (c : Dev nD) (d : (cfg1.win 1).block.Idx → Elt F (cfg1.win 1).elt) : (dat Y g u o c).before 1 t1_0 d = u c := by
  unfold Dat.before; rw [if_pos (fetch1_1 _)]
  funext p
  show (u c : FVec F S32x16 .f32) _ = u c p
  congr 1
  funext a
  match a with
  | 0 => exact Fin.ext (by show 0 + 1 * (p 0).val = (p 0).val; omega)
  | 1 => exact Fin.ext (by show 0 + 1 * (p 1).val = (p 1).val; omega)

theorem body_obligation (c : Dev nD) : BodyObligation (dat Y g u o c) (defs₀ (F := F)) 𝒱₀ none Set.univ := fun t => by
  obtain rfl := fin_N1 t
  rw [bigSep_W1, bigSep_W1]
  simp only [owns_whole_eq]
  rw [show (dat Y g u o c).Φ t1_0.castSucc = inv Y c from rfl, show (dat Y g u o c).Φ t1_0.succ = inv Y c from rfl,
    show (dat Y g u o c).owesAt none t1_0.succ = (dat Y g u o c).owesAt none t1_0.castSucc from rfl]
  have hd : (defs₀ (F := F)) .tc cfg1.body (cfg1.bodyArgs t1_0 (cfg1.slots t1_0)) = bodyAt1 t1_0 := rfl
  rw [hd]
  iintro ⟨⟨Hy, ⟨S0, S1, S2, S3⟩, H0, H1, H2, H3⟩, ⟨%W, %hW, HO⟩, ⟨%dg, %fg, %hfg, Hg⟩, ⟨%du, %fu, %hfu, Hu⟩, ⟨%d1, %fo, -, Ho⟩⟩
  rw [before_g] at hfg
  rw [before_u] at hfu
  iapply (wp_wand_r frame (wpE (defs₀ (F := F)) 𝒱₀ (c : Thread nD τ) none) Set.univ)
  isplitl [Hy S0 S1 S2 S3 H0 H1 H2 H3 HO Hg Hu Ho]
  · iapply (sum_body c (Y c) (g c) (u c) W)
    isplitl [Hy]; · iexact Hy
    isplitl [Hg]; · subst hfg; iexact Hg
    isplitl [Hu]; · subst hfu; iexact Hu
    isplitl [Ho]; · iexists _; iexact Ho
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    iexact HO
  iintro %_ ⟨Hy, Hg, Hu, Ho, H0, H1, H2, H3, S0, S1, S2, S3, %W', %hW', HO⟩
  isplitl [Hy S0 S1 S2 S3 H0 H1 H2 H3]
  · isplitl [Hy]; · iexact Hy
    isplitl [S0 S1 S2 S3]
    · isplitl [S0]; · iexact S0
      isplitl [S1]; · iexact S1
      isplitl [S2]; · iexact S2
      iexact S3
    isplitl [H0]; · iexact H0
    isplitl [H1]; · iexact H1
    isplitl [H2]; · iexact H2
    iexact H3
  isplitl [HO]
  · iexists W'
    isplitr; swap; · iexact HO
    ipureintro
    intro p hp
    rcases hW' p hp with h | h
    · exact hW h
    · exact Or.inl (by show (K (F := F)).lev _ p.2 ≤ 8; rw [h]; exact Nat.zero_le _)
  isplitl [Hg]; · iexists _; isplitr; swap; (· iexact Hg); ipureintro; dsimp only [dat]
  isplitl [Hu]; · iexists _; isplitr; swap; (· iexact Hu); ipureintro; dsimp only [dat]
  iexists _; isplitr; swap; (· iexact Ho); ipureintro; rfl

/-! ## The region -/

/-- The scalar's array after the pipeline's write-back. -/
theorem arr_out (c : Dev nD) : (dat Y g u o c).arrAt 2 cfg1.N = fun _ => total (Y c) (g c) (u c) := by
  refine Dat.arrAt_eq_of_cover _ 2 _ (fun t _ => ?_) (fun i => ⟨t1_0, flush1_2 _, ?_⟩)
  · funext p; rfl
  · have hi : i = ((cfg1.win 2).blk t1_0).view.emb i := by
      funext a
      match a with
      | 0 => exact Fin.ext (by show (i 0).val = 0 + 1 * (i 0).val; omega)
      | 1 => exact Fin.ext (by show (i 1).val = 0 + 1 * (i 1).val; omega)
    rw [hi]
    exact Finset.mem_map_of_mem _ (Finset.mem_univ _)

/-- The four arrays the region works on, the scalar's at `s`. -/
abbrev four (s : Dev nD → FVec F S1x1 .f32) (c : Dev nD) : sProp 𝕄 :=
  iprop(yPts Y c ∗ (((c : Thread nD τ).loc main_v3_0) ↦{fullShare} (g c : Buf (Elt F) ((c : Thread nD τ).loc main_v3_0)))
    ∗ (((c : Thread nD τ).loc main_v3_1) ↦{fullShare} (u c : Buf (Elt F) ((c : Thread nD τ).loc main_v3_1)))
    ∗ (((c : Thread nD τ).loc main_v4) ↦{fullShare} (s c : Buf (Elt F) ((c : Thread nD τ).loc main_v4))))

/-- The TensorCore owes nothing, and its waits so far lie low. -/
abbrev idle (c : Dev nD) : sProp 𝕄 := iprop(∃ W, ⌜↑W ⊆ low (F := F) c⌝ ∗ owes (c : Thread nD τ) (0 : CellTallies nD τ sig (HIx 1)) W)

/-- The arrays of the windows. -/
theorem arrays_three (c : Dev nD) (A : (w : Fin cfg1.W) → Buf (Elt F) ((cfg1.win w).arr.view.loc (c : Thread nD τ))) :
    (dat Y g u o c).arrays A = iprop((((c : Thread nD τ).loc main_v3_0) ↦{fullShare} A 0) ∗ (((c : Thread nD τ).loc main_v3_1) ↦{fullShare} A 1)
      ∗ (((c : Thread nD τ).loc main_v4) ↦{fullShare} A 2)) :=
  (Pipeline.arrays_eq (cfgs) (fun _ c => dat Y g u o c) (p := 0) c arr_whole1 ((dat Y g u o c).share_full fun _ => rfl) A).trans (bigSep_W1 _)

set_option backward.isDefEq.respectTransparency.types false in
/-- THE REGION: entered with the four arrays, left with the scalar at what the body computes. -/
def region : Pipeline.RegionSeg (pcfgs (F := F)) adm (pdats Y g u o) none defs₀ 𝒱₀ (K (F := F)).L (K (F := F)).lev 0 where
  win := winFacts1.to₀
  block_pos := block_pos1
  stage_whole := stage_whole1
  K := Fin 4
  osem := osem
  ho := ownSemFacts
  hbody c := (body_obligation Y g u o c).loose
  hwaits := Pipeline.hwaits_of_owed_zero _ _ _ _ (K (F := F)).L (K (F := F)).lev 0 fun _ _ => rfl
  pre c := iprop(four Y g u o c ∗ idle c)
  post c := iprop(four Y g u (fun c _ => total (Y c) (g c) (u c)) c ∗ idle c)
  X c := iprop(yPts Y c ∗ sems0 c)
  Y c := yPts Y c
  Z _ := BI.emp
  hentry c := by
    rw [ownSems0_eq, show (pdats Y g u o 0 c).arrays ((pdats Y g u o 0 c).arrAt · 0) = _ from arrays_three Y g u o c _]
    iintro ⟨⟨⟨Hy, Hg, Hu, Ho⟩, HO⟩, Hs, -⟩
    imodintro
    isplitl [Hg Hu Ho]
    · isplitl [Hg]; · iexact Hg
      isplitl [Hu]; · iexact Hu
      iexact Ho
    isplitr; · unfold Pipeline.prefHeld; rw [show (Finset.univ : Finset (Fin 0)) = ∅ from rfl, BI.bigSep_empty]; iempintro
    isplitl [HO]
    · icases HO with ⟨%W, %hW, HO⟩; iexists W; isplitr; · ipureintro; exact fun _ h => Or.inl (hW h)
      iexact HO
    isplitl [Hy Hs]
    · isplitl [Hy]; · iexact Hy
      iexact Hs
    iempintro
  hin c := by
    rw [show (pdats Y g u o 0 c).Φ 0 = inv Y c from rfl]; unfold inv
    rw [show (Pipeline.scopedRest (Ix := HIx 1) (Name := ℕ) (U := UU) (Lvl := ℕ) (Val := Elt F) (pcfgs (F := F) 0).spec c : sProp 𝕄) = _ from scopedRest1_eq c]
    iintro ⟨⟨Hy, Hs⟩, -, Hr⟩
    isplitl [Hy]; · iexact Hy
    isplitl [Hs]; · iexact Hs
    iexact Hr
  hout c := by
    rw [ownSems0_eq, show (pdats Y g u o 0 c).Φ (Fin.last cfg1.N) = inv Y c from rfl]; unfold inv
    rw [show (Pipeline.scopedRest (Ix := HIx 1) (Name := ℕ) (U := UU) (Lvl := ℕ) (Val := Elt F) (pcfgs (F := F) 0).spec c : sProp 𝕄) = _ from scopedRest1_eq c]
  hexit c := by
    rw [show (pdats Y g u o 0 c).arrays ((pdats Y g u o 0 c).arrAt · cfg1.N) = _ from arrays_three Y g u o c _,
      show (pdats Y g u o 0 c).arrAt 2 cfg1.N = _ from arr_out Y g u o c,
      show (pdats Y g u o 0 c).arrAt 0 cfg1.N = _ from (dat Y g u o c).arrAt_in 0 rfl _,
      show (pdats Y g u o 0 c).arrAt 1 cfg1.N = _ from (dat Y g u o c).arrAt_in 1 rfl _]
    iintro ⟨⟨Hg, Hu, Ho⟩, HO, Hy, -⟩
    imodintro
    isplitr [HO]
    · isplitl [Hy]; · iexact Hy
      isplitl [Hg]; · iexact Hg
      isplitl [Hu]; · iexact Hu
      iexact Ho
    · icases HO with ⟨%W, %hW, HO⟩; iexists W
      isplitr; swap; · iexact HO
      ipureintro
      intro p hp
      rcases hW hp with h | ⟨w, s, h⟩
      · exact h
      · show (K (F := F)).lev _ p.2 ≤ 8
        rw [h]; exact Nat.zero_le _

end Cert.Proof
-- ==== Proof.Values.lean ====
/-
  What one tile of the SparseCore call computes, as functions of the flattened labels `L` and the flattened transposed
  output `X`: the 32 labels it fetches, the 32 keys it forms of them (positions in `X`), the 32 numbers it gathers there,
  and the two rows of sixteen numbers it writes out. Over any floating-point numbers.
-/
module

public import proofs.«01_k».proof.Proof.Setup

@[expose] public section

noncomputable section

namespace Cert.Proof

open Cert.KernelIdeal Cert.KernelIdeal.Gen
open Idealize.ShloMosaic

variable {F : FTy → Type} [FloatOps F] [Named F]

/-- The number of the row tile `(core, subcore)` writes: twice the subcore plus the core. -/
def wid (i : grid0.Coords) : Fin 32 :=
  ⟨2 * (i 1).val + (i 0).val, by
    have h0 : (i 0).val < 2 := (i 0).isLt
    have h1 : (i 1).val < 16 := (i 1).isLt
    omega⟩

/-- The tile that writes row `w`. -/
def tileOf (w : Fin 32) : grid0.Coords :=
  fun | 0 => ⟨w.val % 2, Nat.mod_lt _ (by decide)⟩ | 1 => ⟨w.val / 2, by have := w.isLt; show w.val / 2 < 16; omega⟩
      | ⟨_ + 2, h⟩ => absurd h (Nat.not_lt.2 (Nat.le_add_left _ _))

theorem tileOf_wid (i : grid0.Coords) : tileOf (wid i) = i := by
  have h0 : (i 0).val < 2 := (i 0).isLt
  funext a
  match a with
  | 0 => exact Fin.ext (show (2 * (i 1).val + (i 0).val) % 2 = (i 0).val by omega)
  | 1 => exact Fin.ext (show (2 * (i 1).val + (i 0).val) / 2 = (i 1).val by omega)

theorem wid_tileOf (w : Fin 32) : wid (tileOf w) = w :=
  Fin.ext (show 2 * (w.val / 2) + w.val % 2 = w.val by omega)

/-- A position in a list of 16, 32, 1024 or 12800000 entries, as an index of it. -/
def at16 (n : Fin 16) : S16.Idx := fun | 0 => n | ⟨_ + 1, h⟩ => absurd h (Nat.not_lt.2 (Nat.le_add_left _ _))
def at32 (n : Fin 32) : S32.Idx := fun | 0 => n | ⟨_ + 1, h⟩ => absurd h (Nat.not_lt.2 (Nat.le_add_left _ _))
def at1024 (n : Fin 1024) : S1024.Idx := fun | 0 => n | ⟨_ + 1, h⟩ => absurd h (Nat.not_lt.2 (Nat.le_add_left _ _))
def atFlat (n : Fin 12800000) : S12800000.Idx := fun | 0 => n | ⟨_ + 1, h⟩ => absurd h (Nat.not_lt.2 (Nat.le_add_left _ _))

theorem at16_eta (l : S16.Idx) : at16 (l 0) = l := by
  funext a; obtain rfl : a = 0 := Subsingleton.elim _ _; rfl
theorem at32_eta (l : S32.Idx) : at32 (l 0) = l := by
  funext a; obtain rfl : a = 0 := Subsingleton.elim _ _; rfl

/-- Half `h` of 32 entries: sixteen of them, from `16 h` on. -/
def half {α : Type} (h : Fin 2) (f : S32.Idx → α) : S16.Idx → α :=
  fun l => f (at32 ⟨16 * h.val + (l 0).val, by have := h.isLt; have : (l 0).val < 16 := (l 0).isLt; omega⟩)

/-- The 32 labels of tile `i`. -/
def labs (L : IVec S1024 32) (i : grid0.Coords) : IVec S32 32 :=
  fun j => L (at1024 ⟨32 * (wid i).val + (j 0).val, by have := (wid i).isLt; have : (j 0).val < 32 := (j 0).isLt; omega⟩)

/-- Its keys, half by half: sixteen labels and the rows they belong to, as positions in the flattened output. -/
def keys (L : IVec S1024 32) (i : grid0.Coords) : Fin 2 → IVec S16 32
  | 0 => k0_pay2 (F := F) i (half 0 (labs L i))
  | 1 => k0_pay3 (F := F) i (half 1 (labs L i))

/-- The 32 keys in one list. -/
def keyList (L : IVec S1024 32) (i : grid0.Coords) : IVec S32 32 :=
  fun j => if h : (j 0).val < 16 then keys (F := F) L i 0 (at16 ⟨(j 0).val, h⟩)
    else keys (F := F) L i 1 (at16 ⟨(j 0).val - 16, by have : (j 0).val < 32 := (j 0).isLt; omega⟩)

theorem half_keyList (L : IVec S1024 32) (i : grid0.Coords) (h : Fin 2) : half h (keyList (F := F) L i) = keys (F := F) L i h := by
  funext l
  have hl : (l 0).val < 16 := (l 0).isLt
  match h with
  | 0 =>
    show (if h : 16 * 0 + (l 0).val < 16 then keys (F := F) L i 0 (at16 ⟨16 * 0 + (l 0).val, h⟩) else _) = _
    rw [dif_pos (by omega)]
    exact congrArg _ ((congrArg at16 (Fin.ext (by simp))).trans (at16_eta l))
  | 1 =>
    show (if h : 16 * 1 + (l 0).val < 16 then _ else keys (F := F) L i 1 (at16 ⟨16 * 1 + (l 0).val - 16, _⟩)) = _
    rw [dif_neg (by omega)]
    exact congrArg _ ((congrArg at16 (Fin.ext (by simp))).trans (at16_eta l))

/-- The numbers at its keys. -/
def vals (X : FVec F S12800000 .f32) (L : IVec S1024 32) (i : grid0.Coords) : FVec F S32 .f32 :=
  fun j => X (atFlat (Fin.ofNat 12800000 (keyList (F := F) L i j).toNat))

/-- The row of gathered numbers: at each lane its two numbers, each over the number of equal keys, added up; -/
def gRow (k₀ k₁ : IVec S16 32) (v₀ v₁ : FVec F S16 .f32) : FVec F S16 .f32 :=
  let a := k0_pay6 (F := F) k₀
  let b := k0_pay15 (F := F) k₁
  k0_pay22 (k0_pay13 (k0_pay4 (Scalar.ofBits .f32 0x00000000#32)) a (k0_pay7 v₀) (k0_pay10 a (k0_pay8 (F := F) k₀) (k0_pay9 (F := F) k₀)) (k0_pay11 (F := F) a))
    b (k0_pay16 v₁) (k0_pay19 b (k0_pay17 (F := F) b) (k0_pay18 b) (Scalar.ofBits .f32 0x3F800000#32)) (k0_pay20 b) (Scalar.ofBits .f32 0x3F800000#32)

/-- and the row of reciprocals: at each lane one over the number of equal keys, of both halves, added up. -/
def uRow (k₀ k₁ : IVec S16 32) : FVec F S16 .f32 :=
  let a := k0_pay6 (F := F) k₀
  let b := k0_pay15 (F := F) k₁
  k0_pay23 (k0_pay14 (k0_pay5 (F := F)) a (k0_pay10 a (k0_pay8 (F := F) k₀) (k0_pay9 (F := F) k₀)) (k0_pay11 (F := F) a))
    b (k0_pay19 b (k0_pay17 (F := F) b) (k0_pay18 b) (Scalar.ofBits .f32 0x3F800000#32)) (k0_pay20 b) (Scalar.ofBits .f32 0x3F800000#32)

/-- The first result whole: row `w` is what the tile of that row writes there. -/
def gAll (X : FVec F S12800000 .f32) (L : IVec S1024 32) : FVec F S32x16 .f32 := fun p =>
  gRow (keys (F := F) L (tileOf (p 0)) 0) (keys (F := F) L (tileOf (p 0)) 1)
    (half 0 (vals X L (tileOf (p 0)))) (half 1 (vals X L (tileOf (p 0)))) (at16 (p 1))

/-- The second result whole. -/
def uAll (L : IVec S1024 32) : FVec F S32x16 .f32 := fun p =>
  uRow (F := F) (keys (F := F) L (tileOf (p 0)) 0) (keys (F := F) L (tileOf (p 0)) 1) (at16 (p 1))

end Cert.Proof
-- ==== Proof.Tile.lean ====
/-
  One tile's task of the SparseCore call, at a symbolic (core, subcore): it fetches its 32 labels, forms the keys,
  gathers the numbers at the keys by one indirect stream, and writes its row of each of the two results. The post states the
  two rows' contents (`gAll`, `uAll`).
-/
module

public import Idealize.ShloMosaic.Lib.WritesUnit
public import Idealize.ShloMosaic.Lib.Pointwise.Reshape
public import proofs.«01_k».proof.Proof.Values

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

/-! ## The buffers -/

abbrev lLoc (d : Dev nD) : Loc nD τ sig := (SparseCore.T d).loc main_v2
abbrev xLoc (d : Dev nD) : Loc nD τ sig := (SparseCore.T d).loc main_v1
abbrev gLoc (d : Dev nD) : Loc nD τ sig := (SparseCore.T d).loc main_v3_0
abbrev uLoc (d : Dev nD) : Loc nD τ sig := (SparseCore.T d).loc main_v3_1

/-- The call's operands and the tile's scratch buffers, as the tile's task addresses them. -/
abbrev lV : Memref sig .scVector .hbm S1024 .i32 := Memref.whole main_v2_scv
abbrev xV : Memref sig .scVector .hbm S12800000 .f32 := Memref.whole main_v1_scv
abbrev gV : Memref sig .scVector .hbm S32x16 .f32 := Memref.whole main_v3_0_scv
abbrev uV : Memref sig .scVector .hbm S32x16 .f32 := Memref.whole main_v3_1_scv
abbrev labV : Memref sig .scVector .vmem S32 .i32 := Memref.whole cc0_scratch0
abbrev idxV : Memref sig .scVector .vmem S32 .i32 := Memref.whole cc0_scratch1
abbrev valV : Memref sig .scVector .vmem S32 .f32 := Memref.whole cc0_scratch2
abbrev goV : Memref sig .scVector .vmem S16 .f32 := Memref.whole cc0_scratch3
abbrev uoV : Memref sig .scVector .vmem S16 .f32 := Memref.whole cc0_scratch4

theorem rowDiv : 32 ∣ S32x16.size 0 := ⟨1, rfl⟩
/-- Row `w` of a 32×16 array. -/
abbrev row (w : Fin 32) : Rect S32x16 := Rect.part (s := S32x16) (a₀ := 0) rowDiv w

/-- Tile `w`'s share of an array that every tile reads. -/
abbrev rShare (w : Fin 32) : PosShare TreeShare := Transfers.dealOf fullShare Finset.univ w

/-- What a tile is given: its shares of the labels and of the output, and its row of each result at contents `g`, `u`. -/
abbrev tilePts (L : IVec S1024 32) (X : FVec F S12800000 .f32) (g u : FVec F S32x16 .f32) (d : Dev nD) (w : Fin 32) : sProp 𝕄 :=
  iprop((lLoc d ↦{rShare w} (L : Buf (Elt F) (lLoc d))) ∗ (xLoc d ↦{rShare w} (X : Buf (Elt F) (xLoc d)))
    ∗ (gLoc d ↦[(row w).set]{fullShare} (g : Buf (Elt F) (gLoc d))) ∗ (uLoc d ↦[(row w).set]{fullShare} (u : Buf (Elt F) (uLoc d))))

section Tile

variable (d : Dev nD) (i : grid0.Coords)

abbrev cV (i : grid0.Coords) : Fin τ.nSC := (i 0).castLE hcore0
abbrev jV (i : grid0.Coords) : Fin τ.nSub := (i 1).castLE hsub0
/-- The tile's thread. -/
abbrev thr (d : Dev nD) (i : grid0.Coords) : Thread nD τ := V d (cV i) (jV i)

abbrev labRect (i : grid0.Coords) : Rect S1024 := Rect.unit (s := S1024) (k0_off1 i) S32.size (k0_off1_inb i)
abbrev rowRect (i : grid0.Coords) : Rect S32x16 := Rect.unit (s := S32x16) (k0_off2 i) S1x16.size (k0_off2_inb i)
/-- The tile's 32 labels, all of the output, and its row of each result, as the task addresses them. -/
abbrev labK (i : grid0.Coords) : Memref sig .scVector .hbm S32 .i32 := lV.slice (labRect i) (fun _ => rfl)
abbrev xAllK : Memref sig .scVector .hbm S12800000 .f32 :=
  xV.slice (Rect.unit (s := S12800000) ![0] S12800000.size inb_S12800000_S12800000_0) (fun _ => rfl)
abbrev gK (i : grid0.Coords) : Memref sig .scVector .hbm S16 .f32 := (gV.slice (rowRect i) (fun _ => rfl)).squeeze S16 squeezes_S1x16_S16
abbrev uK (i : grid0.Coords) : Memref sig .scVector .hbm S16 .f32 := (uV.slice (rowRect i) (fun _ => rfl)).squeeze S16 squeezes_S1x16_S16

/-- The rectangle the task addresses is its row. -/
theorem rowRect_eq : rowRect i = row (wid i) := by
  unfold rowRect row Rect.part Rect.block
  congr 1 <;> funext a
  · rw [k0_off2_eq]
    match a with
    | 0 => simp [Shape.partIx, Shape.partSize, wid]
    | 1 => simp [Shape.partIx, Shape.partSize]
  · match a with
    | 0 => simp [Shape.partSize]
    | 1 => simp [Shape.partSize]

theorem set_gK : (gK i).view.set = (row (wid i)).set := by
  show ((gV.view.slice (rowRect i)).reshape S16 squeezes_S1x16_S16.numel_eq).set = _
  rw [View.set_reshape, View.set_slice]
  exact (Finset.map_refl (s := (rowRect i).set)).trans (rowRect_eq i ▸ rfl)

theorem set_uK : (uK i).view.set = (row (wid i)).set := by
  show ((uV.view.slice (rowRect i)).reshape S16 squeezes_S1x16_S16.numel_eq).set = _
  rw [View.set_reshape, View.set_slice]
  exact (Finset.map_refl (s := (rowRect i).set)).trans (rowRect_eq i ▸ rfl)

/-! ## The tile's own buffers and semaphores -/

abbrev cellOf (d : Dev nD) (i : grid0.Coords) (s : DmaSems sig S_) : GSem nD τ sig := (thr d i, .dma s.sem)

/-- The tile's own semaphores at zero: the gather's, the label fetch's, the two write-outs', and the rest. -/
theorem ownSems0_thr :
    (ownSems0 (thr d i) : sProp 𝕄)
      = iprop(semVal (cellOf d i cc0_scratch5) 0 ∗ semVal (cellOf d i cc0_scoped0) 0 ∗ semVal (cellOf d i cc0_scoped1) 0
          ∗ semVal (cellOf d i cc0_scoped2) 0
          ∗ bigSep (((((ownCells (thr d i)).erase (cellOf d i cc0_scratch5)).erase (cellOf d i cc0_scoped0)).erase (cellOf d i cc0_scoped1)).erase
              (cellOf d i cc0_scoped2)) fun g => semVal g 0) := by
  have mem : ∀ s : DmaSems sig S_, (SemLoc.dma s.sem : SemLoc sig).isScoped .scVector = true → cellOf d i s ∈ ownCells (thr d i) :=
    fun s h => mem_ownCells.mpr ⟨rfl, h⟩
  have ne : ∀ s t : DmaSems sig S_, (SemLoc.dma s.sem : SemLoc sig) ≠ SemLoc.dma t.sem → cellOf d i s ≠ cellOf d i t :=
    fun s t h e => h (Prod.mk.inj e).2
  unfold SparseCore.Cfg.ownSems0
  rw [SparseCore.bigSep_erase' (mem cc0_scratch5 (by decide)),
    SparseCore.bigSep_erase' (Finset.mem_erase.mpr ⟨ne _ _ (by decide), mem cc0_scoped0 (by decide)⟩),
    SparseCore.bigSep_erase' (Finset.mem_erase.mpr ⟨ne _ _ (by decide), Finset.mem_erase.mpr ⟨ne _ _ (by decide), mem cc0_scoped1 (by decide)⟩⟩),
    SparseCore.bigSep_erase' (Finset.mem_erase.mpr ⟨ne _ _ (by decide), Finset.mem_erase.mpr ⟨ne _ _ (by decide),
      Finset.mem_erase.mpr ⟨ne _ _ (by decide), mem cc0_scoped2 (by decide)⟩⟩⟩)]

abbrev refOf (i : grid0.Coords) (b : Ref sig .scVector) : DevRef τ sig := (Proc.scVector (cV i) (jV i)).devRef b

/-- The tile's own buffers: its five scratch buffers, each at some contents, and the rest. -/
theorem ownBufs_thr :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ (∃ f, (thr d i).loc cc0_scratch4 ↦{fullShare} f)
          ∗ bigSep ((((((ownRefs (τ := τ) (.scVector (cV i) (jV i))).erase (refOf i cc0_scratch0)).erase (refOf i cc0_scratch1)).erase
              (refOf i cc0_scratch2)).erase (refOf i cc0_scratch3)).erase (refOf i cc0_scratch4))
              fun b => iprop(∃ f, ((d, b) : Loc nD τ sig) ↦{fullShare} f)) := by
  have mem : ∀ b : Ref sig .scVector, (refOf i b).owner = .proc (Proc.scVector (cV i) (jV i)) → refOf i b ∈ ownRefs (τ := τ) (.scVector (cV i) (jV i)) :=
    fun b h => SparseCore.Cfg.mem_ownRefs_of_owner (p := Proc.scVector (cV i) (jV i)) (b := refOf i b) h
  have ne : ∀ b b' : Ref sig .scVector, b ≠ b' → refOf i b ≠ refOf i b' := fun b b' h e => h (Proc.devRef_injective _ e)
  unfold SparseCore.Cfg.ownBufs
  refine (SparseCore.bigSep_erase' (mem cc0_scratch0 rfl)).trans ?_
  rw [SparseCore.bigSep_erase' (Finset.mem_erase.mpr ⟨ne _ _ (by decide), mem cc0_scratch1 rfl⟩),
    SparseCore.bigSep_erase' (Finset.mem_erase.mpr ⟨ne _ _ (by decide), Finset.mem_erase.mpr ⟨ne _ _ (by decide), mem cc0_scratch2 rfl⟩⟩),
    SparseCore.bigSep_erase' (Finset.mem_erase.mpr ⟨ne _ _ (by decide), Finset.mem_erase.mpr ⟨ne _ _ (by decide),
      Finset.mem_erase.mpr ⟨ne _ _ (by decide), mem cc0_scratch3 rfl⟩⟩⟩),
    SparseCore.bigSep_erase' (Finset.mem_erase.mpr ⟨ne _ _ (by decide), Finset.mem_erase.mpr ⟨ne _ _ (by decide),
      Finset.mem_erase.mpr ⟨ne _ _ (by decide), Finset.mem_erase.mpr ⟨ne _ _ (by decide), mem cc0_scratch4 rfl⟩⟩⟩⟩)]

/-! ## Points-to facts at the task's views -/

theorem pts_gK (f : Buf (Elt F) (gLoc d)) :
    ((gK i).view.loc (thr d i) ↦[(gK i).view.set]{fullShare} f : sProp 𝕄) = gLoc d ↦[(row (wid i)).set]{fullShare} f := by rw [set_gK]
theorem pts_uK (f : Buf (Elt F) (uLoc d)) :
    ((uK i).view.loc (thr d i) ↦[(uK i).view.set]{fullShare} f : sProp 𝕄) = uLoc d ↦[(row (wid i)).set]{fullShare} f := by rw [set_uK]

/-! ## What the task's loads, its stream and its write-outs mean -/

/-- A load of half the label buffer, the key buffer or the number buffer reads that half of its contents. -/
theorem load_lab₀ (f : IVec S32 32) : View.readAt (Elt F) labV.view (Rect.unit (s := S32) ![0] S16.size inb_S32_S16_0).toLoadRect f = half 0 f := by
  funext l; refine congrArg f (funext fun a => ?_); obtain rfl : a = (0 : Fin 1) := Subsingleton.elim (α := Fin 1) a 0
  exact Fin.ext (show 0 + 1 * (l 0).val = 16 * 0 + (l 0).val by omega)
theorem load_lab₁ (f : IVec S32 32) : View.readAt (Elt F) labV.view (Rect.unit (s := S32) ![16] S16.size inb_S32_S16_16).toLoadRect f = half 1 f := by
  funext l; refine congrArg f (funext fun a => ?_); obtain rfl : a = (0 : Fin 1) := Subsingleton.elim (α := Fin 1) a 0
  exact Fin.ext (show 16 + 1 * (l 0).val = 16 * 1 + (l 0).val by omega)
theorem load_idx₀ (f : IVec S32 32) : View.readAt (Elt F) idxV.view (Rect.unit (s := S32) ![0] S16.size inb_S32_S16_0).toLoadRect f = half 0 f :=
  load_lab₀ (F := F) f
theorem load_idx₁ (f : IVec S32 32) : View.readAt (Elt F) idxV.view (Rect.unit (s := S32) ![16] S16.size inb_S32_S16_16).toLoadRect f = half 1 f :=
  load_lab₁ (F := F) f
theorem load_val₀ (f : FVec F S32 .f32) : View.readAt (Elt F) valV.view (Rect.unit (s := S32) ![0] S16.size inb_S32_S16_0).toLoadRect f = half 0 f := by
  funext l; refine congrArg f (funext fun a => ?_); obtain rfl : a = (0 : Fin 1) := Subsingleton.elim (α := Fin 1) a 0
  exact Fin.ext (show 0 + 1 * (l 0).val = 16 * 0 + (l 0).val by omega)
theorem load_val₁ (f : FVec F S32 .f32) : View.readAt (Elt F) valV.view (Rect.unit (s := S32) ![16] S16.size inb_S32_S16_16).toLoadRect f = half 1 f := by
  funext l; refine congrArg f (funext fun a => ?_); obtain rfl : a = (0 : Fin 1) := Subsingleton.elim (α := Fin 1) a 0
  exact Fin.ext (show 16 + 1 * (l 0).val = 16 * 1 + (l 0).val by omega)

/-- What the label fetch lands is the tile's labels. -/
theorem read_labK (L : IVec S1024 32) : (labK i).view.read (Elt F) (L : Buf (Elt F) (lLoc d)) = labs L i := by
  funext j; refine congrArg L (funext fun a => ?_); obtain rfl : a = (0 : Fin 1) := Subsingleton.elim (α := Fin 1) a 0
  refine Fin.ext (show (k0_off1 i) 0 + 1 * (j 0).val = 32 * (wid i).val + (j 0).val from ?_)
  rw [k0_off1_eq]
  show 64 * (i 1).val + 32 * (i 0).val + 1 * (j 0).val = 32 * (2 * (i 1).val + (i 0).val) + (j 0).val
  omega

/-- The two stores into the key buffer leave the list of keys, whatever was there. -/
theorem keys_stored (L : IVec S1024 32) (f : idxV.view.ty.Contents (Elt F)) :
    idxV.view.writes (Elt F) f [⟨Rect.unit ![16] S16.size inb_S32_S16_16, keys (F := F) L i 1⟩, ⟨Rect.unit ![0] S16.size inb_S32_S16_0, keys (F := F) L i 0⟩]
      = keyList (F := F) L i := by
  funext j
  have hj : (j 0).val < 32 := (j 0).isLt
  have hr : ∀ (f : idxV.view.ty.Contents (Elt F)), f j = View.read (Elt F) idxV.view f j := fun _ => rfl
  refine (hr _).trans ?_
  by_cases h : (j 0).val < 16
  · rw [View.read_writes_cons_unit_of_not_mem idxV.view f inb_S32_S16_16 _ _ j rfl 0 (.inl h),
      View.read_writes_cons_unit_of_mem idxV.view f inb_S32_S16_0 _ _ j (at16 ⟨(j 0).val, h⟩) rfl
        (fun a => by obtain rfl : a = (0 : Fin 1) := Subsingleton.elim (α := Fin 1) a 0; show (j 0).val = 0 + (j 0).val; omega)]
    unfold keyList; rw [dif_pos h]
  · rw [View.read_writes_cons_unit_of_mem idxV.view f inb_S32_S16_16 _ _ j (at16 ⟨(j 0).val - 16, by omega⟩) rfl
        (fun a => by obtain rfl : a = (0 : Fin 1) := Subsingleton.elim (α := Fin 1) a 0; show (j 0).val = 16 + ((j 0).val - 16); omega)]
    unfold keyList; rw [dif_neg h]

/-- A row buffer stored whole reads the row. -/
theorem row_stored (b : Memref sig .scVector .vmem S16 .f32) (f : b.view.ty.Contents (Elt F)) (r : FVec F S16 .f32)
    (l : List (View.Piece (Elt F) S16 .f32)) :
    ReadAs.same.apply (View.read (Elt F) b.view (b.view.writes (Elt F) f (⟨Rect.unit (s := S16) ![0] S16.size inb_S16_S16_0, r⟩ :: l))) = r := by
  funext j
  refine (View.read_writes_cons_unit_of_mem b.view f inb_S16_S16_0 _ _ j j rfl fun a => ?_)
  obtain rfl : a = (0 : Fin 1) := Subsingleton.elim (α := Fin 1) a 0
  show (j 0).val = 0 + (j 0).val; omega

theorem rowMajor_S32 (j : S32.Idx) : (S32.rowMajor j).val = (j 0).val := rowMajor_val1 j

/-- Entry `l` of a row, in the one-row block that the row is. -/
theorem squeezed (h : S16.numel = S1x16.numel) (l : S16.Idx) :
    (Shape.reshapeEquiv h l 0).val = 0 ∧ (Shape.reshapeEquiv h l 1).val = (l 0).val := by
  have h0 : (Shape.reshapeEquiv h l 0).val < 1 := (Shape.reshapeEquiv h l 0).isLt
  have e := Shape.rowMajor_reshapeEquiv h l
  rw [rowMajor_val1 l, rowMajor_val2 (Shape.reshapeEquiv h l) 16 rfl] at e
  omega

/-- What the stream lands is the numbers at the keys. -/
theorem gathered (L : IVec S1024 32) (X : FVec F S12800000 .f32) (hin : ∀ j, (keyList (F := F) L i j).toNat < 12800000) :
    SparseCore.gatherPayload (F := F) gathers_S12800000_S32 (xAllK.view.read (Elt F) (X : Buf (Elt F) (xLoc d)))
        (SparseCore.rows (F := F) (si := S32) (keyList (F := F) L i) rfl hin)
      = vals X L i := by
  funext j
  unfold SparseCore.gatherPayload vals
  refine congrArg X (funext fun a => ?_); obtain rfl : a = (0 : Fin 1) := Subsingleton.elim (α := Fin 1) a 0
  refine Fin.ext ?_
  show 0 + 1 * (gathers_S12800000_S32.idx _ j gathers_S12800000_S32.axis).val = _
  rw [Shape.Gathers.idx_axis]
  show 0 + 1 * (keyList (F := F) L i (S32.rowMajor.symm (Fin.cast _ (j 0)))).toNat = (keyList (F := F) L i j).toNat % 12800000
  rw [Nat.mod_eq_of_lt (hin j), show S32.rowMajor.symm (Fin.cast _ (j 0)) = j from
    (Equiv.symm_apply_eq _).mpr (Fin.ext (rowMajor_S32 j).symm)]
  omega

/-- The share of the output splits at what the stream addresses, and comes back together. -/
theorem split_x (X : FVec F S12800000 .f32) :
    (xV.view.loc (thr d i) ↦{rShare (wid i)} (X : Buf (Elt F) (xLoc d)) : sProp 𝕄)
      ⊣⊢ iprop((xAllK.view.loc (thr d i) ↦[xAllK.view.set]{rShare (wid i)} (X : Buf (Elt F) (xLoc d)))
          ∗ xAllK.view.loc (thr d i) ↦[Finset.univ \ xAllK.view.set]{rShare (wid i)} (X : Buf (Elt F) (xLoc d))) :=
  pointsTo_split_subset (Finset.subset_univ _)

/-- A row written out through the task's view is that row of the whole result. -/
theorem gRow_written (d : Dev nD) (g G : FVec F S32x16 .f32) (r : FVec F S16 .f32) (h : ∀ p : S32x16.Idx, p 0 = wid i → G p = r (at16 (p 1))) :
    ∀ p ∈ (row (wid i)).set, ((gK i).view.writes (Elt F) (g : Buf (Elt F) (gLoc d)) [⟨Rect.whole S16, r⟩]) p = G p := by
  intro p hp
  rw [← set_gK] at hp
  obtain ⟨l, -, rfl⟩ := Finset.mem_map.mp hp
  have hj := squeezed squeezes_S1x16_S16.numel_eq l
  have he : (gK i).view.emb l = (rowRect i).emb (Shape.reshapeEquiv squeezes_S1x16_S16.numel_eq l) := rfl
  have h0 : ((gK i).view.emb l : S32x16.Idx) 0 = wid i := Fin.ext (by
    rw [he]; show (k0_off2 i) 0 + 1 * (Shape.reshapeEquiv squeezes_S1x16_S16.numel_eq l 0).val = 2 * (i 1).val + (i 0).val
    rw [hj.1, k0_off2_eq]; show 2 * (i 1).val + (i 0).val + 1 * 0 = _; omega)
  have h1 : ((gK i).view.emb l : S32x16.Idx) 1 = l 0 := Fin.ext (by
    rw [he]; show (k0_off2 i) 1 + 1 * (Shape.reshapeEquiv squeezes_S1x16_S16.numel_eq l 1).val = (l 0).val
    rw [hj.2, k0_off2_eq]; show 0 + 1 * (l 0).val = _; omega)
  have hr := View.read_writes_cons_hit (Val := Elt F) (gK i).view (g : Buf (Elt F) (gLoc d)) (Rect.whole S16) r [] l l
    (funext fun a => Fin.ext (show 0 + 1 * (l a).val = (l a).val by omega))
  refine Eq.trans hr ?_
  rw [h _ h0, h1]
  exact congrArg r (at16_eta l).symm

set_option maxHeartbeats 1000000 in
theorem tile_body (L : IVec S1024 32) (X : FVec F S12800000 .f32) (g u : FVec F S32x16 .f32)
    (hin : ∀ j, (keyList (F := F) L i j).toNat < 12800000)
    (O : CellTallies nD τ sig (HIx 1)) (W : Waits sig (HIx 1)) (hO : ∀ g, O g none = 0) :
    iprop(levAts (K (F := F)).L (K (F := F)).lev ∗ emp ∗ tilePts L X g u d (wid i)
        ∗ scopedBufs (thr d i) ∗ scopedSems0 (thr d i) ∗ owes (thr d i) O W)
      ⊢ wp frame (wpE (defs₀ (F := F)) 𝒱₀ (thr d i) none) Set.univ
          (cc0_sc_kernel i lV (Memref.isWhole_whole _) xV (Memref.isWhole_whole _) gV (Memref.isWhole_whole _) uV (Memref.isWhole_whole _)
            labV (Memref.isWhole_whole _) idxV (Memref.isWhole_whole _) valV (Memref.isWhole_whole _) goV (Memref.isWhole_whole _)
            uoV (Memref.isWhole_whole _) cc0_scratch5 cc0_scoped0 cc0_scoped1 cc0_scoped2)
          fun _ => iprop(tilePts L X (gAll X L) (uAll L) d (wid i)
            ∗ scopedBufs (thr d i) ∗ scopedSems0 (thr d i)
            ∗ ∃ W', ⌜∀ p ∈ W', p ∈ W ∨ p.2 = none⌝ ∗ owes (thr d i) O W') := by
  simp only [cc0_sc_kernel_eq_skeleton]; unfold cc0_sc_kernel_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  rw [(K (F := F)).scopedBufs_V facts d (cV i) (jV i), SparseCore.Cfg.scopedSems0_V (Val := Elt F) d (cV i) (jV i), ownSems0_thr, ownBufs_thr]
  unfold tilePts
  iintro ⟨#Hlv, -, ⟨Hl, Hx, Hg, Hu⟩, ⟨⟨%flab, Hlab⟩, ⟨%fidx, Hidx⟩, ⟨%fval, Hval⟩, ⟨%fgo, Hgo⟩, ⟨%fuo, Huo⟩, Hbufs⟩, ⟨Hs5, Hs0, Hs1, Hs2, Hsems⟩, HO⟩
  ihave Hmw := (show levAts (K (F := F)).L (K (F := F)).lev ⊢ Transfers.MayWaits (thr d i) (default : HIx 1) O from
    (K (F := F)).mayWaits_none (thr := thr d i) hO) $$ Hlv
  ihave Hg := (Entails.of_eq (pts_gK (F := F) d i _).symm) $$ Hg
  ihave Hu := (Entails.of_eq (pts_uK (F := F) d i _).symm) $$ Hu
  ihave Hl := (Entails.of_eq (show (lLoc d ↦{rShare (wid i)} (L : Buf (Elt F) (lLoc d)) : sProp 𝕄) = lV.view.loc (thr d i) ↦{rShare (wid i)} L from rfl)) $$ Hl
  ihave Hx := (Entails.of_eq (show (xLoc d ↦{rShare (wid i)} (X : Buf (Elt F) (xLoc d)) : sProp 𝕄) = xV.view.loc (thr d i) ↦{rShare (wid i)} X from rfl)) $$ Hx
  ihave Hlab := (Entails.of_eq (show ((thr d i).loc cc0_scratch0 ↦{fullShare} flab : sProp 𝕄) = labV.view.loc (thr d i) ↦{fullShare} flab from rfl)) $$ Hlab
  ihave Hidx := (Entails.of_eq (show ((thr d i).loc cc0_scratch1 ↦{fullShare} fidx : sProp 𝕄) = idxV.view.loc (thr d i) ↦{fullShare} fidx from rfl)) $$ Hidx
  ihave Hval := (Entails.of_eq (show ((thr d i).loc cc0_scratch2 ↦{fullShare} fval : sProp 𝕄) = valV.view.loc (thr d i) ↦{fullShare} fval from rfl)) $$ Hval
  ihave Hgo := (Entails.of_eq (show ((thr d i).loc cc0_scratch3 ↦{fullShare} fgo : sProp 𝕄) = goV.view.loc (thr d i) ↦{fullShare} fgo from rfl)) $$ Hgo
  ihave Huo := (Entails.of_eq (show ((thr d i).loc cc0_scratch4 ↦{fullShare} fuo : sProp 𝕄) = uoV.view.loc (thr d i) ↦{fullShare} fuo from rfl)) $$ Huo
  sl_exec
  have hl : View.write (Elt F) labV.view flab (tile_body.sl.dma0 i L) Finset.univ = labs L i := by
    unfold tile_body.sl.dma0; rw [View.write_whole_univ]; exact read_labK i L
  have hkeys : idxV.view.writes (Elt F) idxV.view.junk (tile_body.sl.Hidx_2 d i L flab) = keyList (F := F) L i := by
    rw [← keys_stored (F := F) i L idxV.view.junk]
    unfold tile_body.sl.Hidx_2
    rw [hl, load_lab₀, load_lab₁]
    rfl
  have hin' : ∀ j, (idxV.view.read (Elt F) (keyList (F := F) L i : Buf (Elt F) (idxV.view.loc (thr d i))) j).toNat
      < S12800000.size gathers_S12800000_S32.axis := fun j => hin j
  rw [hkeys]
  ihave Hxs := (split_x (F := F) d i X).1 $$ Hx
  icases Hxs with ⟨Hxs, Hxr⟩
  have hvs : valV.view.set = Finset.univ := View.set_whole _
  have his : idxV.view.set = Finset.univ := View.set_whole _
  ihave Hval := (Entails.of_eq (show (valV.view.loc (thr d i) ↦{fullShare} fval : sProp 𝕄) = valV.view.loc (thr d i) ↦[valV.view.set]{fullShare} fval by rw [hvs])) $$ Hval
  ihave Hidx := (Entails.of_eq (show (idxV.view.loc (thr d i) ↦{fullShare} keyList (F := F) L i : sProp 𝕄)
      = idxV.view.loc (thr d i) ↦[idxV.view.set]{fullShare} keyList (F := F) L i by rw [his])) $$ Hidx
  have hN : ∀ h : S12800000.Gathers 0 S32, ∑ j, (valV.slice (S32.rowRect h.axis' j) (S32.stride_rowRect h.axis' j)).view.dmaCredit
      = valV.view.dmaCredit := by decide
  iapply (SparseCore.wp_indirectGatherLocal countersEmb 𝒱₀ (thr d i) none (hg := gathers_S12800000_S32) (default : HIx 1)
      valV.view.dmaCredit (hN _) (by decide) hin') $$ [Hxs Hval Hidx Hs5]
  · isplitl [Hxs]; · iexact Hxs
    isplitl [Hval]; · iexact Hval
    isplitl [Hidx]; · iexact Hidx
    iexact Hs5
  iintro Hfl
  sl_exec
  iapply (Transfers.wp_waitLocalO countersEmb 𝒱₀ (thr d i) none (default : HIx 1) (rfl : valV.view.dmaCredit = _)) $$ [Hfl HO]
  · isplitl [Hfl]; · iexact Hfl
    isplitl [HO]; · iexact HO
    iapply (Transfers.MayWaits.elim (SemLoc.dma cc0_scratch5.sem)) $$ Hmw
  iintro ⟨⟨Hval, Hxs, Hidx⟩, Hs5, HO⟩
  ihave Hx := (split_x (F := F) d i X).2 $$ [Hxs Hxr]
  · isplitl [Hxs] <;> iassumption
  ihave Hval := (Entails.of_eq (show (valV.view.loc (thr d i) ↦[valV.view.set]{fullShare} View.write (Elt F) valV.view fval _ Finset.univ : sProp 𝕄)
      = valV.view.loc (thr d i) ↦{fullShare} vals X L i by
        rw [hvs, View.write_whole_univ]; exact congrArg (fun f => (valV.view.loc (thr d i) ↦{fullShare} f : sProp 𝕄)) (gathered i L X hin))) $$ Hval
  ihave Hidx := (Entails.of_eq (show (idxV.view.loc (thr d i) ↦[idxV.view.set]{fullShare} keyList (F := F) L i : sProp 𝕄)
      = idxV.view.loc (thr d i) ↦{fullShare} keyList (F := F) L i by rw [his])) $$ Hidx
  sl_exec
  have hg : tile_body.sl.dma8 d i L X fgo = gRow (keys (F := F) L i 0) (keys (F := F) L i 1) (half 0 (vals X L i)) (half 1 (vals X L i)) := by
    unfold tile_body.sl.dma8 tile_body.sl.Hgo_1
    rw [load_idx₀]
    rw [load_idx₁]
    rw [load_val₀]
    rw [load_val₁]
    rw [half_keyList, half_keyList]
    refine (row_stored (F := F) goV fgo _ _).trans ?_
    rfl
  have hu : tile_body.sl.dma8_1 d i L X fuo = uRow (F := F) (keys (F := F) L i 0) (keys (F := F) L i 1) := by
    unfold tile_body.sl.dma8_1 tile_body.sl.Huo_1
    rw [load_idx₀]
    rw [load_idx₁]
    rw [load_val₀]
    rw [load_val₁]
    rw [half_keyList, half_keyList]
    refine (row_stored (F := F) uoV fuo _ _).trans ?_
    rfl
  sl_step
  isplitl [Hl Hx Hg Hu]
  · isplitl [Hl]; · iexact Hl
    isplitl [Hx]; · iexact Hx
    isplitl [Hg]
    · iapply (Entails.of_eq ((pts_gK (F := F) d i _).trans (pointsTo_congr fun p hp => gRow_written i d g (gAll X L) _ (fun p h => by
        unfold gAll; rw [h, tileOf_wid, ← hg]) p hp)))
      iexact Hg
    · iapply (Entails.of_eq ((pts_uK (F := F) d i _).trans (pointsTo_congr fun p hp => gRow_written i d u (uAll L) _ (fun p h => by
        unfold uAll; rw [h, tileOf_wid, ← hu]) p hp)))
      iexact Hu
  isplitl [Hlab Hidx Hval Hgo Huo Hbufs]
  · isplitl [Hlab]; · iexists _; iexact Hlab
    isplitl [Hidx]; · iexists _; iexact Hidx
    isplitl [Hval]; · iexists _; iexact Hval
    isplitl [Hgo]; · iexists _; iexact Hgo
    isplitl [Huo]; · iexists _; iexact Huo
    iexact Hbufs
  isplitl [Hs0 Hs5 Hs1 Hs2 Hsems]
  · isplitl [Hs5]; · iexact Hs5
    isplitl [Hs0]; · iexact Hs0
    isplitl [Hs1]; · iexact Hs1
    isplitl [Hs2]; · iexact Hs2
    iexact Hsems
  iexists _; isplitr
  swap; · iexact HO
  ipureintro; intro p hp
  iterate 4 (rcases Finset.mem_insert.mp hp with hp | hp; · exact .inr (hp ▸ rfl))
  exact .inl hp

end Tile

end Cert.Proof
-- ==== Proof.Call.lean ====
/-
  The SparseCore call: what each tile's task is given and hands back, the tile's run as the launch theorem asks for it, and how
  the four arrays of the call are cut into the 32 tiles' shares and come back together.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

/-- The grid's coordinates of a core and a subcore. -/
def coordsV (c : Fin (grid0.bound 0)) (s : Fin (grid0.bound 1)) : grid0.Coords :=
  fun | 0 => c | 1 => s | ⟨_ + 2, h⟩ => absurd h (Nat.not_lt.2 (Nat.le_add_left _ _))

/-- The row that task `i` of core `c` writes. -/
def widOf (c : Fin 2) (i : Fin 16) : Fin 32 := wid (coordsV c i)

variable (L : Dev nD → IVec S1024 32) (X : Dev nD → FVec F S12800000 .f32) (g u : Dev nD → FVec F S32x16 .f32)

/-- What the call's signals carry on device `d`: a task is given its shares of the labels and of the output and its row of each
    result as it was; it hands them back with the rows written. A core is given what its sixteen tasks are. -/
def P : (K (F := F)).Pay (nD := nD) (Val := Elt F) (Name := ℕ) (U := UU) where
  st := fun q d c => match q with
    | 0 => bigSep Finset.univ fun i : Fin 16 => tilePts (L d) (X d) (g d) (u d) d (widOf c i)
  dn := fun q d c => match q with
    | 0 => bigSep Finset.univ fun i : Fin 16 => tilePts (L d) (X d) (gAll (X d) (L d)) (uAll (L d)) d (widOf c i)
  go := fun q d c i => match q with
    | 0 => tilePts (L d) (X d) (g d) (u d) d (widOf c i)
  td := fun q d c i => match q with
    | 0 => tilePts (L d) (X d) (gAll (X d) (L d)) (uAll (L d)) d (widOf c i)
  x := fun _ _ => iprop(emp)

instance P_storable : (P L X g u).IsStorable where
  st q d c := match q with
    | 0 => (inferInstance : BI.Storable (upEmb : UEmb _ 𝕄)
        (bigSep Finset.univ fun i : Fin 16 => tilePts (L d) (X d) (g d) (u d) d (widOf c i)))
  dn q d c := match q with
    | 0 => (inferInstance : BI.Storable (upEmb : UEmb _ 𝕄)
        (bigSep Finset.univ fun i : Fin 16 => tilePts (L d) (X d) (gAll (X d) (L d)) (uAll (L d)) d (widOf c i)))
  go q d c i := match q with
    | 0 => (inferInstance : BI.Storable (upEmb : UEmb _ 𝕄) (tilePts (L d) (X d) (g d) (u d) d (widOf c i)))
  td q d c i := match q with
    | 0 => (inferInstance : BI.Storable (upEmb : UEmb _ 𝕄) (tilePts (L d) (X d) (gAll (X d) (L d)) (uAll (L d)) d (widOf c i)))

theorem defs₀_vector (c : Fin τ.nSC) (s : Fin τ.nSub) :
    defs₀ (F := F) (.scVector c s) 0 ()
      = SparseCore.onTile hcore0 hsub0 (fun c s => cc0_sc_kernel (coordsV c s)
          lV (Memref.isWhole_whole _) xV (Memref.isWhole_whole _) gV (Memref.isWhole_whole _) uV (Memref.isWhole_whole _)
          labV (Memref.isWhole_whole _) idxV (Memref.isWhole_whole _) valV (Memref.isWhole_whole _) goV (Memref.isWhole_whole _)
          uoV (Memref.isWhole_whole _) cc0_scratch5 cc0_scoped0 cc0_scoped1 cc0_scoped2) ⟨⟩ c s := rfl

/-- A task waits at no call's index, so its waits are as the launch theorem allows. -/
theorem waits_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile's task, as the launch theorem asks for it, where every key is in range. -/
theorem tileObl (hin : ∀ d i j, (keyList (F := F) (L d) i j).toNat < 12800000) :
    (K (F := F)).TileObl (D (F := F)) 𝒱 (P L X g u) v₀ 0 := by
  intro d c i O W hO _ _
  simp only [show (P L X g u).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (L d) (X d) (g d) (u d) (hin d _) O W hO).trans (wp_mono frame _ _ fun _ => waits_post)

/-- A core's share is its tasks' shares. -/
theorem vecSplit : (K (F := F)).VecSplit' (P L X g u) 0 := by
  intro d c
  show (bigSep Finset.univ fun i : Fin 16 => tilePts (L d) (X d) (g d) (u d) d (widOf c i))
    ⊢ |={Set.univ}=> iprop((bigSep Finset.univ fun i : Fin 16 => tilePts (L d) (X d) (g d) (u d) d (widOf c i))
      ∗ ((bigSep Finset.univ fun i : Fin 16 => tilePts (L d) (X d) (gAll (X d) (L d)) (uAll (L d)) d (widOf c i))
        -∗ bigSep Finset.univ fun i : Fin 16 => tilePts (L d) (X d) (gAll (X d) (L d)) (uAll (L d)) d (widOf c i)))
  iintro H; imodintro
  isplitl [H]; · iexact H
  iintro H; iexact H

/-! ## The arrays, whole and cut into the tiles' shares -/

/-- The cores' tasks and the rows match up. -/
def tasks : Fin 2 × Fin 16 ≃ Fin 32 where
  toFun p := widOf p.1 p.2
  invFun w := (tileOf w 0, tileOf w 1)
  left_inv p := by
    show (tileOf (wid (coordsV p.1 p.2)) 0, tileOf (wid (coordsV p.1 p.2)) 1) = p
    rw [tileOf_wid]; rfl
  right_inv w := by
    show wid (coordsV (tileOf w 0) (tileOf w 1)) = w
    refine Eq.trans (congrArg wid ?_) (wid_tileOf w)
    funext a; match a with | 0 => rfl | 1 => rfl

/-- The four arrays of the call, whole. -/
abbrev arrays (L : IVec S1024 32) (X : FVec F S12800000 .f32) (g u : FVec F S32x16 .f32) (d : Dev nD) : sProp 𝕄 :=
  iprop((lLoc d ↦{fullShare} (L : Buf (Elt F) (lLoc d))) ∗ (xLoc d ↦{fullShare} (X : Buf (Elt F) (xLoc d)))
    ∗ (gLoc d ↦{fullShare} (g : Buf (Elt F) (gLoc d))) ∗ (uLoc d ↦{fullShare} (u : Buf (Elt F) (uLoc d))))

/-- They are the 32 tiles' shares together. -/
theorem arrays_cut (L : IVec S1024 32) (X : FVec F S12800000 .f32) (g u : FVec F S32x16 .f32) (d : Dev nD) :
    (arrays L X g u d : sProp 𝕄)
      = bigSep Finset.univ fun c : Fin 2 => bigSep Finset.univ fun i : Fin 16 => tilePts L X g u d (widOf c i) := by
  have hdj : ∀ w ∈ (Finset.univ : Finset (Fin 32)), ∀ w' ∈ (Finset.univ : Finset (Fin 32)), w ≠ w' → Disjoint (row w).set (row w').set :=
    fun w _ w' _ h => Rect.part_disjoint rowDiv h
  have hcov : (Finset.univ : Finset (Fin 32)).biUnion (fun w => (row w).set) = Finset.univ := Rect.biUnion_part rowDiv
  rw [← bigSep_univ_prod (fun p : Fin 2 × Fin 16 => tilePts L X g u d (widOf p.1 p.2)),
    show (bigSep Finset.univ fun p : Fin 2 × Fin 16 => tilePts L X g u d (widOf p.1 p.2))
      = bigSep Finset.univ fun w : Fin 32 => tilePts L X g u d w from (bigSep_univ_equiv tasks (fun w => tilePts L X g u d w)).symm]
  unfold tilePts arrays
  rw [bigSep_sep', bigSep_sep', bigSep_sep']
  congr 1
  · exact Transfers.pointsTo_deal Finset.univ ⟨0, Finset.mem_univ _⟩ fullShare
  congr 1
  · exact Transfers.pointsTo_deal Finset.univ ⟨0, Finset.mem_univ _⟩ fullShare
  congr 1
  · rw [← pointsTo_biUnion Finset.univ (ℓ := gLoc d) (fun w => (row w).set) hdj]
    exact congrArg (fun S => (gLoc d ↦[S]{fullShare} (g : Buf (Elt F) (gLoc d)) : sProp 𝕄)) hcov.symm
  · rw [← pointsTo_biUnion Finset.univ (ℓ := uLoc d) (fun w => (row w).set) hdj]
    exact congrArg (fun S => (uLoc d ↦[S]{fullShare} (u : Buf (Elt F) (uLoc d)) : sProp 𝕄)) hcov.symm

/-- What the TensorCore hands the cores is the four arrays as they were, -/
theorem st_all (d : Dev nD) :
    (bigSep Finset.univ fun c : Fin ((K (F := F)).nCore 0) => (P L X g u).st 0 d c) = (arrays (L d) (X d) (g d) (u d) d : sProp 𝕄) :=
  (arrays_cut (L d) (X d) (g d) (u d) d).symm

/-- and what it gets back is them with the two results written. -/
theorem dn_all (d : Dev nD) :
    (bigSep Finset.univ fun c : Fin ((K (F := F)).nCore 0) => (P L X g u).dn 0 d c)
      = (arrays (L d) (X d) (gAll (X d) (L d)) (uAll (L d)) d : sProp 𝕄) :=
  (arrays_cut (L d) (X d) (gAll (X d) (L d)) (uAll (L d)) d).symm

end Cert.Proof
-- ==== Proof.Run.lean ====
/-
  The whole program's run: the two relayouts and the flattening of the labels on the host, the SparseCore call, the
  TensorCore's region, and the result's reshape. Stated around a launch memory, over any floating-point numbers.
-/
module

public import proofs.«01_k».proof.Proof.Region
public import proofs.«01_k».proof.Proof.Call

@[expose] public section

noncomputable section

namespace Cert.Proof

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held seq seqK after)

variable {F : FTy → Type} [FloatOps F] [Named F]

local notation "𝕄" => MM F

/-! ## The values -/

variable (m : (ℓ : Loc nD τ sig) → Buf (Elt F) ℓ) (ρ : Dev nD → PrngReg)

/-- The `output` argument, transposed; -/
def outT (d : Dev nD) : FVec F S100000x128 .f32 :=
  transpose S100000x128 [1, 0] (m (d, main_arg1) : FVec F S128x100000 .f32) transposes_S128x100000_S100000x128_1_0
/-- that, flattened; -/
def outFlat (d : Dev nD) : FVec F S12800000 .f32 := shapeCast S12800000 (outT m d) shapeCasts_S100000x128_S12800000
/-- and the `labels` argument, flattened. -/
def labFlat (d : Dev nD) : IVec S1024 32 := shapeCast S1024 (m (d, main_arg3) : IVec S128x8 32) shapeCasts_S128x8_S1024

/-- The tables as the launch found them, and the scalar. -/
def g₀ (d : Dev nD) : FVec F S32x16 .f32 := m (d, main_v3_0)
def u₀' (d : Dev nD) : FVec F S32x16 .f32 := m (d, main_v3_1)
def o₀ (d : Dev nD) : FVec F S1x1 .f32 := m (d, main_v4)

/-- The tables the tiles write. -/
def gTab (d : Dev nD) : FVec F S32x16 .f32 := gAll (outFlat m d) (labFlat m d)
def uTab (d : Dev nD) : FVec F S32x16 .f32 := uAll (labFlat m d)

/-- The program's result. -/
def result (d : Dev nD) : FVec F S_ .f32 :=
  shapeCast S_ ((fun _ => total (outT m d) (gTab m d) (uTab m d)) : FVec F S1x1 .f32) shapeCasts_S1x1_S_

/-! ## The host's operations -/

/-- The three before the call. -/
abbrev ops : List (HloOp τ sig (Elt F)) :=
  [StableHlo.unary main_arg1 main_v0 ((transpose S100000x128 [1, 0] · transposes_S128x100000_S100000x128_1_0) : (⟨S128x100000, .f32⟩ : BufTy).Contents (Elt F) → (⟨S100000x128, .f32⟩ : BufTy).Contents (Elt F)),
   StableHlo.reshape main_v0 main_v1 (rfl : (.f32 : EltTy) = .f32) shapeCasts_S100000x128_S12800000,
   StableHlo.reshape main_arg3 main_v2 (rfl : (.i32 : EltTy) = .i32) shapeCasts_S128x8_S1024]

/-- The one after the region. -/
abbrev opLast : HloOp τ sig (Elt F) := StableHlo.reshape main_v4 main_v5 (rfl : (.f32 : EltTy) = .f32) shapeCasts_S1x1_S_

/-- The launch memory of device `d`. -/
abbrev W₀ (d : Dev nD) : Valuation τ sig (Elt F) := fun b => m (d, b)

theorem after_v0 (d : Dev nD) : after ops (W₀ m d) main_v0 = outT m d := by after_results; rfl
theorem after_v1 (d : Dev nD) : after ops (W₀ m d) main_v1 = outFlat m d := by after_results; rfl
theorem after_v2 (d : Dev nD) : after ops (W₀ m d) main_v2 = labFlat m d := by after_results; rfl

/-- A buffer none of the three writes is as it was. -/
theorem after_other (d : Dev nD) (b : Ref sig .tc) (h : b ∉ [main_v0, main_v1, main_v2]) : after ops (W₀ m d) b = m (d, b) :=
  StableHlo.after_of_writes_sub (W := [main_v0, main_v1, main_v2]) ops _
    ⟨show ({↑main_v0} : Finset (DevRef τ sig)) ⊆ _ by decide, show ({↑main_v1} : Finset (DevRef τ sig)) ⊆ _ by decide,
      show ({↑main_v2} : Finset (DevRef τ sig)) ⊆ _ by decide⟩ h

/-- The program: the three, then the rest. -/
theorem main_eq (d : Dev nD) : main (F := F) d = (seq ops >>= fun _ => do
      (sc (F := F)).run d 0
      Prog.lift (.customCall (SparseCore.inner (Pipeline.entry 0)) ())
      hlo rfl opLast (fun _ => .ret ⟨⟩)
      pure ⟨⟩) := by
  rw [StableHlo.seq_bind_seqK]; rfl

/-- The TensorCore's unscoped buffers, each at its contents. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_v0 ↦{fullShare} W main_v0) ∗ ((SparseCore.T d).loc main_v1 ↦{fullShare} W main_v1) ∗ ((SparseCore.T d).loc main_v2 ↦{fullShare} W main_v2)
      ∗ ((SparseCore.T d).loc main_v3_0 ↦{fullShare} W main_v3_0) ∗ ((SparseCore.T d).loc main_v3_1 ↦{fullShare} W main_v3_1)
      ∗ ((SparseCore.T d).loc main_v4 ↦{fullShare} W main_v4) ∗ ((SparseCore.T d).loc main_v5 ↦{fullShare} W main_v5)) := by
  unfold unscopedBufs
  rw [show (Finset.univ.filter fun b : Ref sig .tc => ¬ b.isScoped)
      = {main_arg0, main_arg1, main_arg2, main_arg3, main_v0, main_v1, main_v2, main_v3_0, main_v3_1, main_v4, main_v5} by decide]
  repeat rw [SparseCore.bigSep_insert' (by decide)]
  rw [bigSep_singleton]

/-! ## The launch element of the ghost state -/

def u₀ : UU := (initOf (K (F := F)).hsCells (K (F := F)).hsToks,
  (initOf (Pipeline.cells (nD := nD) (τ := τ) cfgs cellOf_inj) (Pipeline.launchToks cfgs cellOf_inj), 1))

/-- What a TensorCore gets of it: the region's ghost state. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The call's payloads, at this program's arrays. -/
abbrev P₁ : (K (F := F)).Pay (nD := nD) (Val := Elt F) (Name := ℕ) (U := UU) := P (labFlat m) (outFlat m) (g₀ m) (u₀' m)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P₁ m).x q thr) := by
  unfold u₀
  iintro Hu
  ihave H := (ownU_pair (initOf (K (F := F)).hsCells (K (F := F)).hsToks) (_ : UP × Counters)) $$ Hu
  icases H with ⟨HH, HR⟩
  ihave H := (own_pair_emb (embR : Emb (UP × Counters) (MM F)) _ (1 : Counters)) $$ HR
  icases H with ⟨HP, -⟩
  have hf : BI.own (((Emb.inl : Emb UP (UP × Counters)).trans (embR : Emb (UP × Counters) (MM F)))
      (initOf (Pipeline.cells (nD := nD) (τ := τ) cfgs cellOf_inj) (Pipeline.launchToks cfgs cellOf_inj))) ⊢ _ :=
    Pipeline.fund_ghost (Pipeline.pin (pcfgs (F := F)) adm) EP cellOf_inj
  have hpick (Φ : Fin 1 → Dev nD → sProp 𝕄) :
      (bigSep Finset.univ fun c : Dev nD => bigSep Finset.univ fun p => Φ p c) ⊢ bigSep Finset.univ fun c : Dev nD => Φ 0 c :=
    bigSep_mono fun c _ => BI.bigSep_elim (Finset.mem_univ 0)
  imod hf $$ HP with ⟨Hg, Ht⟩
  imodintro
  isplitl [HH]; · iexact HH
  isplitl [Hg Ht]
  · unfold G
    rw [bigSep_sep']
    isplitl [Hg]
    · iapply (hpick fun p c => Pipeline.cellsGhost (Pipeline.pin (pcfgs (F := F)) adm) EP p c); iexact Hg
    · iapply (hpick fun p c => Pipeline.toksInit (Pipeline.pin (pcfgs (F := F)) adm) EP p c); iexact Ht
  rw [show (bigSep Finset.univ fun thr : Thread nD τ => bigSep Finset.univ fun q : Fin 1 => (P₁ (F := F) m).x q thr) = bigSep Finset.univ fun _ => iprop(emp) from
    bigSep_congr fun _ _ => bigSep_univ_of_subsingleton (0 : Fin 1), show (bigSep _ fun _ => iprop(emp)) = (iprop(emp) : sProp 𝕄) from bigSep_emp_const _]
  iempintro

/-! ## @main on the TensorCore -/

/-- What the program ends with: its arguments as they were and the result. -/
abbrev FIN (d : Dev nD) : sProp 𝕄 :=
  iprop(((SparseCore.T d).loc main_arg0 ↦{fullShare} m (d, main_arg0)) ∗ ((SparseCore.T d).loc main_arg1 ↦{fullShare} m (d, main_arg1))
    ∗ ((SparseCore.T d).loc main_arg2 ↦{fullShare} m (d, main_arg2)) ∗ ((SparseCore.T d).loc main_arg3 ↦{fullShare} m (d, main_arg3))
    ∗ ((SparseCore.T d).loc main_v5 ↦{fullShare} (result m d : Buf (Elt F) ((SparseCore.T d).loc main_v5))))

/-- The region's call below the SparseCore call's labels. -/
theorem region_call (d : Dev nD) (Φ : PUnit → sProp 𝕄) :
    iprop((iprop(boundary (SparseCore.T d) ∗ (four (outT m) (gTab m) (uTab m) (fun d _ => total (outT m d) (gTab m d) (uTab m d)) d ∗ idle (F := F) d)) -∗ Φ ⟨⟩)
        ∗ boundary (SparseCore.T d) ∗ (four (outT m) (gTab m) (uTab m) (o₀ m) d ∗ idle (F := F) d)
        ∗ levAts (K (F := F)).L (K (F := F)).lev ∗ G (F := F) d)
      ⊢ wp frame (wpE ((K (F := F)).defs D) 𝒱 (SparseCore.T d) none) Set.univ
          (Prog.lift (.customCall (SparseCore.inner (Pipeline.entry (0 : Fin 1))) ())) Φ := by
  have h := Pipeline.RegionSeg.wp (pcfgs (F := F)) adm (pdats (outT m) (gTab m) (uTab m) (o₀ m)) none cellOf_inj EP defs₀ 𝒱₀
    (K (F := F)).L (K (F := F)).lev (region (outT m) (gTab m) (uTab m) (o₀ m)) d none (fun _ h => nomatch h) (fun _ => .ret ⟨⟩) Φ
  rw [show (region (outT m) (gTab m) (uTab m) (o₀ m)).pre d = iprop(four (outT m) (gTab m) (uTab m) (o₀ m) d ∗ idle (F := F) d) from rfl] at h
  refine BIBase.Entails.trans ?_ (h.trans ((K (F := F)).wp_liftProg D 𝒱 (SparseCore.T d) Set.univ none _ Φ))
  iintro ⟨Hk, Hb, HR, HL, Hg, Ht⟩
  isplitl [Hk]
  · iintro H
    rw [wp_ret]; imodintro
    iapply Hk; iexact H
  isplitl [Hb]; · iexact Hb
  isplitl [HR]; · iexact HR
  isplitl [HL]; · iexact HL
  isplitl [Hg]; · iexact Hg
  iexact Ht

/-- @main on device `d`'s TensorCore. -/
theorem hmain (κ : GSem nD τ sig → ℕ) (d : Dev nD) :
    iprop((K (F := F)).ctx EH (P₁ m) κ ∗ (K (F := F)).tcSt EH d 0 ∗ (K (F := F)).tcRes m ρ d ∗ G (F := F) d)
      ⊢ wp frame (wpE ((K (F := F)).defs D) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = _ from Pipeline.unscopedBufs_held d (W₀ m d)]
  iintro ⟨#Hctx, Hst, ⟨Hb, Hbufs, Hts, -⟩, HG⟩
  iapply (StableHlo.wp_seq 𝒱 none Set.univ d (Pipeline.ucRefs τ sig) _ ops
    (fun op h => Pipeline.sub_ucRefs op (by
      simp only [List.mem_cons, List.not_mem_nil, or_false] at h
      rcases h with rfl | rfl | rfl
      · exact show ({↑main_arg1, ↑main_v0} : Finset (DevRef τ sig)) ⊆ _ by decide
      · exact show ({↑main_v0, ↑main_v1} : Finset (DevRef τ sig)) ⊆ _ by decide
      · exact show ({↑main_arg3, ↑main_v2} : Finset (DevRef τ sig)) ⊆ _ by decide))
    (fun op h => by
      simp only [List.mem_cons, List.not_mem_nil, or_false] at h
      rcases h with rfl | rfl | rfl <;> rfl) (W₀ m d)) $$ [Hb Hbufs]
  · isplitl [Hb] <;> iassumption
  rw [← Pipeline.unscopedBufs_held d (after ops (W₀ m d)), unscopedBufs_eq, after_v0, after_v1, after_v2]
  simp only [after_other m d _ (show main_arg0 ∉ [main_v0, main_v1, main_v2] by decide),
    after_other m d _ (show main_arg1 ∉ [main_v0, main_v1, main_v2] by decide),
    after_other m d _ (show main_arg2 ∉ [main_v0, main_v1, main_v2] by decide),
    after_other m d _ (show main_arg3 ∉ [main_v0, main_v1, main_v2] by decide),
    after_other m d _ (show main_v3_0 ∉ [main_v0, main_v1, main_v2] by decide),
    after_other m d _ (show main_v3_1 ∉ [main_v0, main_v1, main_v2] by decide),
    after_other m d _ (show main_v4 ∉ [main_v0, main_v1, main_v2] by decide),
    after_other m d _ (show main_v5 ∉ [main_v0, main_v1, main_v2] by decide)]
  iintro ⟨Hb, H0, H1, H2, H3, Hy, Hx, Hl, Hg, Hu, Ho, Hr⟩
  simp only [wp_bind, wp_pure]
  iapply ((K (F := F)).wp_run D 𝒱 (EH := EH) (P := P₁ m) κ d 0)
  isplitr; · iexact Hctx
  isplitl [Hst]; · iexact Hst
  isplitl [Hl Hx Hg Hu]
  · rw [st_all]
    isplitl [Hl]; · iexact Hl
    isplitl [Hx]; · iexact Hx
    isplitl [Hg]; · iexact Hg
    iexact Hu
  iintro ⟨Hst, Hdn⟩
  ihave Hdn := (Entails.of_eq (dn_all _ _ _ _ d)) $$ Hdn
  icases Hdn with ⟨Hl, Hx, Hg, Hu⟩
  unfold SparseCore.Cfg.tcSt
  icases Hst with ⟨⟨%W, %hW, HO⟩, Hst⟩
  rw [show (K (F := F)).Otc d ((0 : Fin 1).val + 1) = 0 from (K (F := F)).Otc_end d le_rfl]
  iapply (region_call m d _)
  isplitr [Hb Hy Hg Hu Ho HO HG]
  · iintro ⟨Hb, ⟨Hy, Hg, Hu, Ho⟩, %W', %hW', HO⟩
    let V : Valuation τ sig (Elt F) := fun b => if h : b = (main_v4 : DevRef τ sig) then
      h ▸ ((fun _ => total (outT m d) (gTab m d) (uTab m d)) : FVec F S1x1 .f32) else m (d, b)
    have hV4 : V main_v4 = ((fun _ => total (outT m d) (gTab m d) (uTab m d)) : FVec F S1x1 .f32) := dif_pos rfl
    have hV5 : V main_v5 = m (d, main_v5) := dif_neg (by decide)
    have hS (V' : Valuation τ sig (Elt F)) : (held (SparseCore.T d) (opLast (F := F)).bufs V' : sProp 𝕄)
        = iprop(((SparseCore.T d).loc main_v4 ↦{fullShare} V' main_v4) ∗ ((SparseCore.T d).loc main_v5 ↦{fullShare} V' main_v5)) := by
      unfold StableHlo.held
      rw [show (opLast (F := F)).bufs = {(main_v4 : DevRef τ sig), (main_v5 : DevRef τ sig)} from rfl,
        SparseCore.bigSep_insert' (by decide), bigSep_singleton]
    iapply (StableHlo.wp_hlo_within 𝒱 (SparseCore.T d) none Set.univ (S := (opLast (F := F)).bufs) (Finset.Subset.refl _) (V := V)) $$ [Hb Ho Hr]
    · isplitl [Hb]; · iexact Hb
      rw [hS, hV4, hV5]
      isplitl [Ho]; · iexact Ho
      iexact Hr
    rw [hS, show (opLast (F := F)).result V main_v5 = result m d from by rw [StableHlo.reshape_result, hV4]; rfl]
    iintro ⟨Hb, -, Hr⟩
    rw [wp_ret]; imodintro
    imodintro
    isplitl [HO Hst]
    · isplitl [HO]
      · rw [show (K (F := F)).Otc d 1 = 0 from (K (F := F)).Otc_end d le_rfl]
        iexists W'; isplitr; · ipureintro; exact hW'
        iexact HO
      iexact Hst
    isplitl [H0 H1 H2 H3 Hr]
    · isplitl [H0]; · iexact H0
      isplitl [H1]; · iexact H1
      isplitl [H2]; · iexact H2
      isplitl [H3]; · iexact H3
      iexact Hr
    isplitl [Hb] <;> iassumption
  isplitl [Hb]; · iexact Hb
  isplitl [Hy Hg Hu Ho HO]
  · isplitr [HO]
    · isplitl [Hy]; · iexact Hy
      isplitl [Hg]; · iexact Hg
      isplitl [Hu]; · iexact Hu
      iexact Ho
    · iexists W; isplitr; · ipureintro; exact hW
      iexact HO
  isplitr; · iapply ((K (F := F)).ctx_levAts κ); iexact Hctx
  iexact HG

/-! ## The run -/

/-- What a final state shows of device `d`. -/
def fq (d : Dev nD) (s' : Phys nD τ sig (Elt F)) : Prop :=
  s'.mem.mem (d, main_arg0) = m (d, main_arg0) ∧ s'.mem.mem (d, main_arg1) = m (d, main_arg1)
    ∧ s'.mem.mem (d, main_arg2) = m (d, main_arg2) ∧ s'.mem.mem (d, main_arg3) = m (d, main_arg3)
    ∧ s'.mem.mem (d, main_v5) = result m d

/-- A buffer held whole reads so in the final state. -/
theorem read_held (d : Dev nD) (b : Ref sig .tc) (f : Buf (Elt F) ((SparseCore.T d).loc b)) (s' : Phys nD τ sig (Elt F)) (R : sProp 𝕄) :
    iprop((((SparseCore.T d).loc b ↦{fullShare} f) ∗ R) ∗ SI s') ⊢ iprop(⌜s'.mem.mem ((SparseCore.T d).loc b) = f⌝ ∗ (R ∗ SI s')) := by
  iintro ⟨⟨H, HR⟩, HSI⟩
  ihave H := (persistent_entails_right (SI_pointsTo_agree (st := s') (ℓ := (SparseCore.T d).loc b) (I := Finset.univ) (q := fullShare) (f := f))) $$ [HSI H]
  · isplitl [HSI] <;> iassumption
  icases H with ⟨%h, HSI, -⟩
  isplitr; · ipureintro; exact funext fun i => h i (Finset.mem_univ i)
  isplitl [HR] <;> iassumption

theorem hfin (d : Dev nD) (s' : Phys nD τ sig (Elt F)) : iprop(FIN m d ∗ SI s') ⊢ (⌜fq m d s'⌝ : sProp 𝕄) := by
  iintro H
  ihave H := (read_held d main_arg0 _ s' _) $$ H; icases H with ⟨%h0, H⟩
  ihave H := (read_held d main_arg1 _ s' _) $$ H; icases H with ⟨%h1, H⟩
  ihave H := (read_held d main_arg2 _ s' _) $$ H; icases H with ⟨%h2, H⟩
  ihave H := (read_held d main_arg3 _ s' _) $$ H; icases H with ⟨%h3, H⟩
  ihave H := (read_held d main_v5 _ s' iprop(emp)) $$ [H]
  · icases H with ⟨H, HS⟩
    isplitl [H]; · isplitl; (· iexact H); iempintro
    iexact HS
  icases H with ⟨%h5, -⟩
  ipureintro; exact ⟨h0, h1, h2, h3, h5⟩

/-- The run of the program on all threads: it ends, with the arguments as they were, the result at its value and every
    semaphore at zero, if every key lies inside the flattened output. -/
theorem run_main [∀ e, Nonempty (Elt F e)]
    (hin : ∀ (d : Dev nD) i j, (keyList (F := F) (labFlat m d) i j).toNat < 12800000) :
    θ_run (Cert.KernelIdeal.defs (F := F)) (Cert.KernelIdeal.threads (F := F)) ⟨m, fun _ => 0, ρ⟩
      (fun r => (∀ d, r.2.mem (d, main_arg0) = m (d, main_arg0) ∧ r.2.mem (d, main_arg1) = m (d, main_arg1)
        ∧ r.2.mem (d, main_arg2) = m (d, main_arg2) ∧ r.2.mem (d, main_arg3) = m (d, main_arg3)
        ∧ r.2.mem (d, main_v5) = result m d) ∧ r.2.sem = fun _ => 0) :=
  SparseCore.Cfg.θ_run_sc_quiescent (K := K (F := F)) (D := D (F := F)) (𝒱 := 𝒱) (EH := EH) (P := P₁ m) (A := ∅) facts v₀
    (fun q hq => match q with | 0 => nomatch hq)
    (fun q _ => match q with | 0 => tileObl _ _ _ _ hin)
    (fun q _ => match q with | 0 => SparseCore.Cfg.VecSplit.of_plain (vecSplit _ _ _ _))
    m ρ main (fun d => G (F := F) d) (FIN m) u₀ (sep_elim_left.trans (hu₀ m)) (hmain m ρ) (fq m) (hfin m) _ (fun _ h hz => ⟨h, hz⟩)

end Cert.Proof
-- ==== Proof.Keys.lean ====
/-
  The keys of the SparseCore call: where in the flattened transposed output each of a tile's 32 labels points. Label `l` of
  row `r` points at `128 l + r`, which lies inside the array where the labels do in theirs.
-/
module

public import Idealize.ShloMosaic.Lib.WordCmp
public import Idealize.ShloMosaic.Lib.Pipeline.Value
public import proofs.«01_k».proof.Proof.Values

@[expose] public section

noncomputable section

namespace Cert.Proof

open Cert.KernelIdeal Cert.KernelIdeal.Gen
open Idealize.ShloMosaic

variable {F : FTy → Type} [FloatOps F] [Named F]

/-- The eighth of a lane's number. -/
theorem pay1_toNat (l : S16.Idx) : (k0_pay1 l).toNat = (l 0).val / 8 := by
  have hl : (l 0).val < 16 := (l 0).isLt
  show (IntOp.shrui .vector (BitVec.ofNat 32 (0 * 16 + (l 0).val)) 3#32).toNat = _
  unfold IntOp.shrui
  rw [if_pos (by decide)]
  simp only [BitVec.ushiftRight_eq', BitVec.toNat_ushiftRight, BitVec.toNat_ofNat, Nat.shiftRight_eq_div_pow, Nat.reducePow, Nat.reduceMod]
  omega

/-- The arithmetic of a key: no wrap-around, for a label below 100000. -/
theorem key_word (c s h e : ℕ) (v : BitVec 32) (w : BitVec 32) (hc : c < 2) (hs : s < 16) (hh : h < 2) (hv : v.toNat < 100000)
    (he : e < 2) (hw : w.toNat = e) :
    (v * 128#32 + (((BitVec.ofNat 32 s * 2#32 + BitVec.ofNat 32 c) * 4#32 + BitVec.ofNat 32 (2 * h)) + w)).toNat
      = 128 * v.toNat + (4 * (2 * s + c) + 2 * h + e) := by
  simp only [BitVec.toNat_add, BitVec.toNat_mul, BitVec.toNat_ofNat, hw]
  omega

/-- The label at lane `l` of half `h`. -/
def labAt (L : IVec S1024 32) (i : grid0.Coords) (h : Fin 2) (l : S16.Idx) : BitVec 32 := half h (labs L i) l

/-- The key at lane `l` of half `h`: 128 times the label there, plus its row. -/
theorem keys_toNat (L : IVec S1024 32) (hL : ∀ j, (L j).toNat < 100000) (i : grid0.Coords) (h : Fin 2) (l : S16.Idx) :
    (keys (F := F) L i h l).toNat = 128 * (labAt L i h l).toNat + (4 * (wid i).val + 2 * h.val + (l 0).val / 8) := by
  have h0 : (i 0).val < 2 := (i 0).isLt
  have h1 : (i 1).val < 16 := (i 1).isLt
  have hl : (l 0).val < 16 := (l 0).isLt
  have hw := pay1_toNat l
  have hv : (labAt L i h l).toNat < 100000 := hL _
  match h with
  | 0 =>
    refine Eq.trans (congrArg BitVec.toNat ?_) (key_word (i 0).val (i 1).val 0 ((l 0).val / 8) _ (k0_pay1 l) h0 h1 (by decide) hv (by omega) hw)
    simp only [keys, k0_pay2, shapeCast_self]
    rfl
  | 1 =>
    refine Eq.trans (congrArg BitVec.toNat ?_) (key_word (i 0).val (i 1).val 1 ((l 0).val / 8) _ (k0_pay1 l) h0 h1 (by decide) hv (by omega) hw)
    simp only [keys, k0_pay3, shapeCast_self]
    rfl

/-- Every key lies inside the flattened output. -/
theorem keyList_lt (L : IVec S1024 32) (hL : ∀ j, (L j).toNat < 100000) (i : grid0.Coords) (j : S32.Idx) :
    (keyList (F := F) L i j).toNat < 12800000 := by
  have hb (h : Fin 2) (l : S16.Idx) : (keys (F := F) L i h l).toNat < 12800000 := by
    have h0 := (wid i).isLt
    have hl : (l 0).val < 16 := (l 0).isLt
    have hh := h.isLt
    have hv : (labAt L i h l).toNat < 100000 := hL _
    rw [keys_toNat L hL]
    omega
  unfold keyList
  split
  · exact hb _ _
  · exact hb _ _

end Cert.Proof
-- ==== Proof.Frames.lean ====
/-
  The frames of the kernel and of its idealization: on labels in range the program runs to its end, its arguments
  unchanged and every semaphore at zero. One run serves both: read over the chip's floats, with each named constant the
  word it stands for, the idealized program is the printed one.
-/
module

public import Idealize.ShloMosaic.Lib.WordCmp
public import proofs.«01_k».proof.Defs
public import proofs.«01_k».proof.Proof.Gen.Kernel
public import proofs.«01_k».proof.Proof.Run
public import proofs.«01_k».proof.Proof.Keys

@[expose] public section

noncomputable section

namespace Cert.Proof

open Cert.KernelIdeal Cert.KernelIdeal.Gen
open Idealize.ShloMosaic Idealize.ShloMosaic.TcCoe Idealize.SL.Sem

/-- The precondition's own shape relation. -/
instance : Cert.Pre_labels_in_range.Facts := ⟨by decide⟩

/-- A word that is at least 0 and below 100000, both as signed words, is a number below 100000. -/
theorem word_in_range (v : BitVec 32) (h : IntOp.andi (IntOp.cmpi .sge v 0#32) (IntOp.cmpi .slt v 100000#32) = 1#1) : v.toNat < 100000 := by
  have hand (p q : Bool) : IntOp.andi (BitVec.ofBool p) (BitVec.ofBool q) = BitVec.ofBool (p && q) := by cases p <;> cases q <;> decide
  have hone (p : Bool) : (BitVec.ofBool p = 1#1) ↔ p = true := by cases p <;> decide
  simp only [IntOp.cmpi, hand, hone, Bool.and_eq_true, BitVec.sle_eq_decide, BitVec.slt_eq_decide, decide_eq_true_eq,
    BitVec.toInt_eq_toNat_cond, BitVec.toNat_ofNat, Nat.reducePow, Nat.reduceMod] at h
  omega

section
variable {F : FTy → Type} [FloatOps F]

/-- Labels below 100000: every key lies inside the flattened output. -/
theorem keys_inside [Named F] (m : (ℓ : Loc nD τ sig) → Buf (Elt F) ℓ)
    (h : ∀ d (j : S128x8.Idx), ((m (d, main_arg3) : IVec S128x8 32) j).toNat < 100000) (d : Dev nD) (i : grid0.Coords) (j : S32.Idx) :
    (keyList (F := F) (labFlat m d) i j).toNat < 12800000 :=
  keyList_lt _ (fun _ => h d _) i j

/-- Labels below 100000: the idealized program runs to its end over any floats, arguments unchanged, semaphores zero. -/
theorem run_frame [Named F] [∀ e, Nonempty (Elt F e)] (m : (ℓ : Loc nD τ sig) → Buf (Elt F) ℓ) (ρ : Dev nD → PrngReg)
    (h : ∀ d (j : S128x8.Idx), ((m (d, main_arg3) : IVec S128x8 32) j).toNat < 100000) :
    θ_run (Cert.KernelIdeal.defs (F := F)) (Cert.KernelIdeal.threads (F := F)) ⟨m, fun _ => 0, ρ⟩ (fun r =>
      (∀ d : Dev nD, r.2.mem (d, main_arg0) = m (d, main_arg0) ∧ r.2.mem (d, main_arg1) = m (d, main_arg1)
        ∧ r.2.mem (d, main_arg2) = m (d, main_arg2) ∧ r.2.mem (d, main_arg3) = m (d, main_arg3)) ∧ r.2.sem = fun _ => 0) :=
  (θ_run Cert.KernelIdeal.defs _ _).mono (fun _ h => ⟨fun c => ⟨(h.1 c).1, (h.1 c).2.1, (h.1 c).2.2.1, (h.1 c).2.2.2.1⟩, h.2⟩)
    (run_main m ρ (keys_inside m h))

end

/-- The frame of the idealized kernel on labels in range. -/
theorem frame_kernelIdeal : Cert.quiescent_KernelIdeal := fun m ρ hpre =>
  run_frame m ρ fun d j => word_in_range _ (congrFun (hpre d) j)

/-- Over the chip's floats a named constant is the word it stands for: -/
@[reducible] def namedBits : Named Bits := ⟨fun _ _ {φ} bits => Scalar.ofBits φ bits⟩

section
attribute [local instance] namedBits

/-- the idealized program's kernels are then the printed ones, -/
theorem defs₀_bits : Cert.Kernel.defs₀ (F := Bits) = Cert.KernelIdeal.defs₀ (F := Bits) := by
  funext p ℓ a
  rcases p with _ | _ | ⟨c, s⟩ <;> fin_cases ℓ <;> rfl

/-- its whole table of bodies the printed one, -/
theorem defs_bits : Cert.Kernel.defs (F := Bits) = Cert.KernelIdeal.defs (F := Bits) := by
  unfold Cert.Kernel.defs Cert.KernelIdeal.defs
  rw [defs₀_bits]
  rfl

/-- and its run is the kernel's: the frame of the kernel on labels in range. -/
theorem frame_kernel : Cert.quiescent_Kernel := fun m ρ hpre => by
  have h := run_frame (F := Bits) m ρ fun d j => word_in_range _ (congrFun (hpre d) j)
  rw [defs_bits]
  exact h

end

end Cert.Proof
-- ==== Proof.Distinct.lean ====
/-
  The mathematics of the kernel, over the real numbers. A sum over a list of keys in which each term is divided by the
  number of keys equal to its own is the sum over the distinct keys; and the divergence against a smoothed target, which
  is one number at the hit positions and another elsewhere, is a sum over all positions plus a sum over the hit ones.
-/
module

public import Mathlib.Analysis.SpecialFunctions.Log.Basic
public import Mathlib.Data.EReal.Operations

@[expose] public section

noncomputable section

namespace Cert.Proof

/-- A sum of real numbers, read as an extended real number, term by term. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Each term over the number of keys equal to its own: the sum over the distinct keys. -/
theorem sum_shared {ι κ : Type*} [Fintype ι] [DecidableEq κ] (g : ι → κ) (f : κ → ℝ) :
    ∑ i, f (g i) * (1 / ((Finset.univ.filter fun j => g j = g i).card : ℝ)) = ∑ k ∈ Finset.univ.image g, f k := by
  classical
  rw [Finset.sum_comp (fun k => f k * (1 / ((Finset.univ.filter fun j => g j = k).card : ℝ))) g]
  refine Finset.sum_congr rfl fun k hk => ?_
  obtain ⟨i, -, rfl⟩ := Finset.mem_image.1 hk
  have hpos : ((Finset.univ.filter fun j => g j = g i).card : ℝ) ≠ 0 :=
    Nat.cast_ne_zero.2 (Finset.card_ne_zero.2 ⟨i, by simp⟩)
  rw [nsmul_eq_mul]
  field_simp

/-- One over the number of keys equal to it, for each key: the number of distinct keys. -/
theorem sum_shared_one {ι κ : Type*} [Fintype ι] [DecidableEq κ] (g : ι → κ) :
    ∑ i, 1 / ((Finset.univ.filter fun j => g j = g i).card : ℝ) = ((Finset.univ.image g).card : ℝ) := by
  simpa using sum_shared g fun _ => 1

/-- The divergence against a target that is `hi` at the positions of `K` and `lo` elsewhere. -/
theorem divergence_split {κ : Type*} [Fintype κ] [DecidableEq κ] (K : Finset κ) (hi lo : ℝ) (x : κ → ℝ) :
    ∑ k, (if k ∈ K then hi else lo) * (Real.log (if k ∈ K then hi else lo) - x k)
      = K.card * (hi * Real.log hi - lo * Real.log lo) + Fintype.card κ * (lo * Real.log lo)
        - lo * ∑ k, x k - (hi - lo) * ∑ k ∈ K, x k := by
  have h : ∀ k, (if k ∈ K then hi else lo) * (Real.log (if k ∈ K then hi else lo) - x k)
      = lo * Real.log lo - lo * x k + if k ∈ K then (hi * Real.log hi - lo * Real.log lo) - (hi - lo) * x k else 0 := by
    intro k
    split <;> ring
  simp only [h, Finset.sum_add_distrib, Finset.sum_sub_distrib, ← Finset.mul_sum, Finset.sum_ite_mem, Finset.univ_inter,
    Finset.sum_const, Finset.card_univ, nsmul_eq_mul]
  ring

end Cert.Proof
-- ==== Proof.Counts.lean ====
/-
  The two rows a tile writes, over the ideal numbers: at a lane, each half's gathered number over the number of keys equal
  to the lane's own, and one over that number, added up over the two halves.
-/
module

public import Idealize.ShloMosaic.Lib.Pointwise
public import proofs.«01_k».proof.Proof.Values
public import proofs.«01_k».proof.Proof.Distinct

@[expose] public section

noncomputable section

namespace Cert.Proof

open Cert.KernelIdeal Cert.KernelIdeal.Gen
open Idealize.ShloMosaic

/-- The number of the sixteen keys that equal the one at lane `l`. -/
def count (k : IVec S16 32) (l : S16.Idx) : ℕ := (Finset.univ.filter fun t : Fin 16 => k (ix1 t) = k l).card

/-- One where two words are equal, zero elsewhere. -/
theorem select_eq (a b : BitVec 32) :
    Scalar.select (IntOp.cmpi CmpIPredicate.eq a b) (1 : EReal) 0 = ((if b = a then 1 else 0 : ℝ) : EReal) := by
  by_cases h : a = b
  · subst h; simp [Scalar.select, IntOp.cmpi]
  · have hb : (a == b) = false := by simp [h]
    simp [Scalar.select, IntOp.cmpi, hb, Ne.symm h]

/-- The keys equal to the one at a lane, counted one after the other. -/
theorem count_eq (k : IVec S16 32) (l : S16.Idx) :
    ((∑ t : Fin 16, if k (ix1 t) = k l then 1 else 0 : ℝ) : EReal) = ((count k l : ℝ) : EReal) := by
  rw [Finset.sum_boole]; rfl

/-- A lane's own key is among the sixteen. -/
theorem count_ne_zero (k : IVec S16 32) (l : S16.Idx) : (count k l : ℝ) ≠ 0 :=
  Nat.cast_ne_zero.2 (Finset.card_ne_zero.2 ⟨(l 0 : Fin 16), Finset.mem_filter.2 ⟨Finset.mem_univ _, congrArg k (ix1_eta l)⟩⟩)

/-- One over a count. -/
theorem div_count (k : IVec S16 32) (l : S16.Idx) :
    Ideal.div 1 ((count k l : ℝ) : EReal) = ((1 / (count k l : ℝ) : ℝ) : EReal) := by
  rw [Ideal.div_coe (count_ne_zero k l), one_mul]

/-- What a tile writes at lane `l` of its row of reciprocals. -/
theorem uRow_apply (k₀ k₁ : IVec S16 32) (l : S16.Idx) :
    uRow (F := Ideal) k₀ k₁ l = ((1 / (count k₀ l : ℝ) + 1 / (count k₁ l : ℝ) : ℝ) : EReal) := by
  rw [EReal.coe_add, ← div_count, ← div_count, ← count_eq, ← count_eq]
  pointwise [uRow, k0_pay5, k0_pay14, k0_pay23, k0_pay12, k0_pay6, k0_pay10, k0_pay8, k0_pay9, k0_pay11, k0_pay21, k0_pay15, k0_pay19, k0_pay17, k0_pay18,
    k0_pay20, select_eq]
  simp only [Fin.sum_univ_castSucc, Fin.sum_univ_zero, EReal.coe_add, EReal.coe_zero, zero_add]
  rfl

/-- What it writes at lane `l` of its row of gathered numbers. -/
theorem gRow_apply (k₀ k₁ : IVec S16 32) (v₀ v₁ : FVec Ideal S16 .f32) (x₀ x₁ : S16.Idx → ℝ) (h₀ : ∀ l, v₀ l = (x₀ l : EReal))
    (h₁ : ∀ l, v₁ l = (x₁ l : EReal)) (l : S16.Idx) :
    gRow k₀ k₁ v₀ v₁ l = ((x₀ l * (1 / (count k₀ l : ℝ)) + x₁ l * (1 / (count k₁ l : ℝ)) : ℝ) : EReal) := by
  rw [EReal.coe_add, EReal.coe_mul, EReal.coe_mul, ← div_count, ← div_count, ← count_eq, ← count_eq, ← h₀, ← h₁]
  pointwise [gRow, k0_pay4, k0_pay7, k0_pay13, k0_pay22, k0_pay12, k0_pay6, k0_pay10, k0_pay8, k0_pay9, k0_pay11, k0_pay21, k0_pay15, k0_pay16, k0_pay19,
    k0_pay17, k0_pay18, k0_pay20, select_eq]
  simp only [Fin.sum_univ_castSucc, Fin.sum_univ_zero, EReal.coe_add, EReal.coe_zero, zero_add]
  rfl

end Cert.Proof
-- ==== Proof.Tables.lean ====
/-
  The two tables the tiles write, added up over the ideal numbers. A label at position `p` of the flattened labels belongs
  to row `p / 8` and has the key `128 · label + p / 8`; the reciprocals add up to the number of distinct keys, the gathered
  numbers to the sum of the numbers at the distinct keys.
-/
module

public import proofs.«01_k».proof.Proof.Keys
public import proofs.«01_k».proof.Proof.Counts

@[expose] public section

noncomputable section

namespace Cert.Proof

open Cert.KernelIdeal Cert.KernelIdeal.Gen
open Idealize.ShloMosaic

variable (L : IVec S1024 32) (hL : ∀ j, (L j).toNat < 100000)

/-- The key of the label at position `p`. -/
def key (p : Fin 1024) : Fin 12800000 :=
  ⟨128 * (L (at1024 p)).toNat + p.val / 8, by have := hL (at1024 p); have := p.isLt; omega⟩

/-- The distinct keys. -/
def hits : Finset (Fin 12800000) := Finset.univ.image (key L hL)

/-- The position of lane `l` in half `h` of the labels of row `w`'s tile. -/
def pos (w : Fin 32) (h : Fin 2) (l : Fin 16) : Fin 1024 :=
  ⟨w.val * 32 + (h.val * 16 + l.val), by have := w.isLt; have := h.isLt; have := l.isLt; omega⟩

/-- A sum over the positions, tile by tile, half by half, lane by lane. -/
theorem sum_pos (f : Fin 1024 → ℝ) : ∑ p, f p = ∑ w : Fin 32, ∑ l : Fin 16, (f (pos w 0 l) + f (pos w 1 l)) := by
  rw [Fin.sum_univ_tiles 32 32 rfl]
  refine Finset.sum_congr rfl fun w _ => ?_
  rw [Fin.sum_univ_tiles 2 16 rfl, Fin.sum_univ_two, Finset.sum_add_distrib]
  rfl

/-- The key a tile forms is the key of its position. -/
theorem keys_pos (w : Fin 32) (h : Fin 2) (l : Fin 16) :
    (keys (F := Ideal) L (tileOf w) h (ix1 l)).toNat = (key L hL (pos w h l)).val := by
  rw [keys_toNat L hL, wid_tileOf]
  have hlab : labAt L (tileOf w) h (ix1 l) = L (at1024 (pos w h l)) := by
    show L (at1024 ⟨32 * (wid (tileOf w)).val + (16 * h.val + l.val), _⟩) = _
    exact congrArg (fun p => L (at1024 p)) (Fin.ext (by
      show 32 * (wid (tileOf w)).val + (16 * h.val + l.val) = w.val * 32 + (h.val * 16 + l.val)
      rw [wid_tileOf]; omega))
  rw [hlab]
  show 128 * _ + (4 * w.val + 2 * h.val + l.val / 8) = 128 * _ + (w.val * 32 + (h.val * 16 + l.val)) / 8
  omega

/-- Two keys are equal only if their positions lie in the same half of the same tile's labels. -/
theorem key_half (p q : Fin 1024) (e : key L hL p = key L hL q) : p.val / 16 = q.val / 16 := by
  have h := congrArg Fin.val e
  have := p.isLt
  have := q.isLt
  simp only [key] at h
  omega

/-- The keys of a half that equal the one at a lane are as many as the keys altogether that equal it. -/
theorem count_pos (w : Fin 32) (h : Fin 2) (l : Fin 16) :
    count (keys (F := Ideal) L (tileOf w) h) (ix1 l) = (Finset.univ.filter fun q => key L hL q = key L hL (pos w h l)).card := by
  have heq (t : Fin 16) : keys (F := Ideal) L (tileOf w) h (ix1 t) = keys (F := Ideal) L (tileOf w) h (ix1 l) ↔ key L hL (pos w h t) = key L hL (pos w h l) := by
    rw [← BitVec.toNat_inj, keys_pos L hL, keys_pos L hL, Fin.val_inj]
  unfold count
  refine Finset.card_bij (fun t _ => pos w h t) (fun t ht => ?_) (fun a _ b _ e => ?_) (fun q hq => ?_)
  · exact Finset.mem_filter.2 ⟨Finset.mem_univ _, (heq t).1 (Finset.mem_filter.1 ht).2⟩
  · have := congrArg Fin.val e
    simp only [pos] at this
    exact Fin.ext (by omega)
  · have hk := (Finset.mem_filter.1 hq).2
    have hh := key_half L hL _ _ hk
    have hp : pos w h ⟨q.val % 16, Nat.mod_lt _ (by decide)⟩ = q := Fin.ext (by
      have := l.isLt
      simp only [pos] at hh ⊢
      omega)
    exact ⟨⟨q.val % 16, Nat.mod_lt _ (by decide)⟩, Finset.mem_filter.2 ⟨Finset.mem_univ _, (heq _).2 (by rw [hp, hk])⟩, hp⟩

/-- The table of reciprocals adds up to the number of distinct keys. -/
theorem sum_uAll : ∑ a : Fin 32, ∑ b : Fin 16, uAll (F := Ideal) L (ix2 a b) = (((hits L hL).card : ℝ) : EReal) := by
  have h (a : Fin 32) (b : Fin 16) : uAll (F := Ideal) L (ix2 a b)
      = ((1 / ((Finset.univ.filter fun q => key L hL q = key L hL (pos a 0 b)).card : ℝ)
          + 1 / ((Finset.univ.filter fun q => key L hL q = key L hL (pos a 1 b)).card : ℝ) : ℝ) : EReal) := by
    rw [← count_pos, ← count_pos, ← uRow_apply]; rfl
  simp only [h, ← coe_sum]
  rw [hits, ← sum_shared_one, sum_pos]

/-- The table of gathered numbers adds up to the sum of the numbers at the distinct keys. -/
theorem sum_gAll (X : FVec Ideal S12800000 .f32) (x : Fin 12800000 → ℝ) (hX : ∀ k, X (ix1 k) = (x k : EReal)) :
    ∑ a : Fin 32, ∑ b : Fin 16, gAll (F := Ideal) X L (ix2 a b) = ((∑ k ∈ hits L hL, x k : ℝ) : EReal) := by
  have hv (w : Fin 32) (h : Fin 2) (l : S16.Idx) : half h (vals X L (tileOf w)) l = (x (key L hL (pos w h (l 0))) : EReal) := by
    rw [← hX]
    show X (atFlat (Fin.ofNat 12800000 (half h (keyList (F := Ideal) L (tileOf w)) l).toNat)) = _
    rw [half_keyList]
    refine congrArg X (funext fun a => ?_)
    obtain rfl : a = (0 : Fin 1) := Subsingleton.elim (α := Fin 1) a 0
    refine Fin.ext ?_
    show (keys (F := Ideal) L (tileOf w) h l).toNat % 12800000 = (key L hL (pos w h (l 0))).val
    have hk := (congrArg (fun y => (keys (F := Ideal) L (tileOf w) h y).toNat) (ix1_eta l)).symm.trans (keys_pos L hL w h (l 0))
    exact (congrArg (· % 12800000) hk).trans (Nat.mod_eq_of_lt (key L hL _).isLt)
  have h (a : Fin 32) (b : Fin 16) : gAll (F := Ideal) X L (ix2 a b)
      = ((x (key L hL (pos a 0 b)) * (1 / ((Finset.univ.filter fun q => key L hL q = key L hL (pos a 0 b)).card : ℝ))
          + x (key L hL (pos a 1 b)) * (1 / ((Finset.univ.filter fun q => key L hL q = key L hL (pos a 1 b)).card : ℝ)) : ℝ) : EReal) := by
    rw [← count_pos, ← count_pos]
    exact gRow_apply _ _ _ _ (fun l => x (key L hL (pos a 0 (l 0)))) (fun l => x (key L hL (pos a 1 (l 0)))) (hv a 0) (hv a 1) (ix1 b)
  simp only [h, ← coe_sum]
  rw [hits, ← sum_shared, sum_pos]

end Cert.Proof
-- ==== Proof.Consts.lean ====
/-
  The constants of the kernel and of the reference as real numbers: the two values of the smoothed target, and the three
  named constants put together of them.
-/
module

public import Idealize.ShloMosaic.Lib.Pointwise
public import proofs.«01_k».proof.KernelIdeal

@[expose] public section

noncomputable section

namespace Cert.Proof

open Cert.KernelIdeal
open Idealize.ShloMosaic

/-- The target at a label; -/
def hi : ℝ := 7549747 / 67108864
/-- the target elsewhere. -/
def lo : ℝ := 8796797 / 8796093022208

theorem bits_hi : Ideal.ofBits .f32 0x3DE66666#32 = (hi : EReal) := by
  simp [Ideal.ofBits, Ideal.ieee, -EReal.coe_mul, hi]; norm_num
theorem bits_lo : Ideal.ofBits .f32 0x35863A7D#32 = (lo : EReal) := by
  simp [Ideal.ofBits, Ideal.ieee, -EReal.coe_mul, lo]; norm_num
theorem bits_128 : Ideal.ofBits .f32 0x43000000#32 = ((128 : ℝ) : EReal) := by
  simp [Ideal.ofBits, Ideal.ieee, -EReal.coe_mul]; norm_num
/-- The floor under the logarithm lies below both values. -/
theorem bits_floor : Ideal.ofBits .f32 0x006CE3EE#32 ≤ (lo : EReal) := by
  simp [Ideal.ofBits, Ideal.ieee, -EReal.coe_mul, lo]; norm_num

/-- The named constants: a hit's share of the entropy over a miss's; -/
theorem named_uniq : Named.named (F := Ideal) κ "c_uniq" (φ := .f32) 0xBE7BACD0#32 = ((hi * Real.log hi - lo * Real.log lo : ℝ) : EReal) := by
  simp only [Named.named, κ, Option.getD_some]
  congr 1
  simp (disch := positivity) only [Real.log_mul, Real.log_inv, Real.log_sqrt]
  unfold hi lo
  generalize Real.log (7549747 / 67108864) = a
  generalize Real.log (8796797 / 8796093022208) = b
  ring
/-- the entropy of a target without a hit; -/
theorem named_ent : Named.named (F := Ideal) κ "c_ent" (φ := .f32) 0xC330DA07#32 = ((12800000 * (lo * Real.log lo) : ℝ) : EReal) := by
  simp only [Named.named, κ, Option.getD_some]
  congr 1
  unfold lo
  ring
/-- the difference of the target's two values. -/
theorem named_diff : Named.named (F := Ideal) κ "hi_less_base" (φ := .f32) 0x3DE665E0#32 = ((hi - lo : ℝ) : EReal) := by
  simp only [Named.named, κ, Option.getD_some]
  congr 1
  unfold hi lo
  norm_num

end Cert.Proof
-- ==== Proof.Total.lean ====
/-
  The scalar the TensorCore's body stores, over the ideal numbers: the sum of the whole output, block by block, and the
  sums of the two tables, put together.
-/
module

public import Idealize.ShloMosaic.Lib.Pointwise
public import proofs.«01_k».proof.Proof.Sum
public import proofs.«01_k».proof.Proof.Distinct
public import proofs.«01_k».proof.Proof.Consts

@[expose] public section

noncomputable section

namespace Cert.Proof

open Cert.KernelIdeal Cert.KernelIdeal.Gen
open Idealize.ShloMosaic

/-- A sum of twenty terms, one after the other. -/
theorem sum_twenty (f : Fin 20 → EReal) : ∑ k, f k = f 0 + f 1 + f 2 + f 3 + f 4 + f 5 + f 6 + f 7 + f 8 + f 9 + f 10 + f 11 + f 12 + f 13
    + f 14 + f 15 + f 16 + f 17 + f 18 + f 19 := by
  simp only [Fin.sum_univ_castSucc, Fin.sum_univ_zero, zero_add]
  rfl

/-- The accumulator after all twenty blocks: at sublane `s` and column `b`, the rows of every block that fall on the sublane. -/
theorem acc_apply (Y : FVec Ideal S100000x128 .f32) (s : Fin 8) (b : Fin 128) :
    acc19 Y (ix2 s b) + multiReduction .add [0] S8x128 (k1_pay7 (block Y 19)) 0x00000000#32 reduces_S625x8x128_S8x128 (.inl rfl) rfl (ix2 s b)
      = ∑ k : Fin 20, ∑ r : Fin 625, block Y k (ix2 ⟨r.val * 8 + s.val, by have := r.isLt; have := s.isLt; omega⟩ b) := by
  pointwise [acc19, k1_pay2, k1_pay3, k1_pay4, k1_pay5, k1_pay6, k1_pay7]
  rw [sum_twenty]

/-- Two pairs of sums, exchanged. -/
theorem sum_exchange {α β γ δ : Type*} [Fintype α] [Fintype β] [Fintype γ] [Fintype δ] (f : α → β → γ → δ → ℝ) :
    ∑ a, ∑ b, ∑ c, ∑ d, f a b c d = ∑ c, ∑ d, ∑ a, ∑ b, f a b c d := by
  calc ∑ a, ∑ b, ∑ c, ∑ d, f a b c d = ∑ a, ∑ c, ∑ b, ∑ d, f a b c d := Finset.sum_congr rfl fun _ _ => Finset.sum_comm
    _ = ∑ c, ∑ a, ∑ b, ∑ d, f a b c d := Finset.sum_comm
    _ = ∑ c, ∑ a, ∑ d, ∑ b, f a b c d := Finset.sum_congr rfl fun _ _ => Finset.sum_congr rfl fun _ _ => Finset.sum_comm
    _ = ∑ c, ∑ d, ∑ a, ∑ b, f a b c d := Finset.sum_congr rfl fun _ _ => Finset.sum_comm

/-- The blocks' sums together: the sum of all the numbers, row after row. -/
theorem sum_blocks (Y : FVec Ideal S100000x128 .f32) (x : Fin 12800000 → ℝ)
    (hY : ∀ (v : Fin 100000) (b : Fin 128), Y (ix2 v b) = (x ⟨v.val * 128 + b.val, by have := v.isLt; have := b.isLt; omega⟩ : EReal)) :
    ∑ s : Fin 8, ∑ b : Fin 128, ∑ k : Fin 20, ∑ r : Fin 625, block Y k (ix2 ⟨r.val * 8 + s.val, by have := r.isLt; have := s.isLt; omega⟩ b)
      = ((∑ j, x j : ℝ) : EReal) := by
  have h (s : Fin 8) (b : Fin 128) (k : Fin 20) (r : Fin 625) :
      block Y k (ix2 ⟨r.val * 8 + s.val, by have := r.isLt; have := s.isLt; omega⟩ b)
        = (x ⟨(k.val * 5000 + (r.val * 8 + s.val)) * 128 + b.val, by have := k.isLt; have := r.isLt; have := s.isLt; have := b.isLt; omega⟩ : EReal) := by
    refine Eq.trans ?_ (hY ⟨k.val * 5000 + (r.val * 8 + s.val), by have := k.isLt; have := r.isLt; have := s.isLt; omega⟩ b)
    refine congrArg Y (funext fun a => ?_)
    match a with
    | 0 => exact Fin.ext (show 5000 * k.val + (r.val * 8 + s.val) = k.val * 5000 + (r.val * 8 + s.val) by omega)
    | 1 => rfl
  simp only [h, ← coe_sum]
  rw [sum_exchange, Fin.sum_univ_tiles 100000 128 rfl, Fin.sum_univ_tiles 20 5000 rfl]
  refine congrArg _ (Finset.sum_congr rfl fun k _ => ?_)
  rw [Fin.sum_univ_tiles 625 8 rfl]

/-- The scalar, of an output of real numbers and two tables with real sums. -/
theorem total_apply (Y : FVec Ideal S100000x128 .f32) (g u : FVec Ideal S32x16 .f32) (x : Fin 12800000 → ℝ) (G U : ℝ)
    (hY : ∀ (v : Fin 100000) (b : Fin 128), Y (ix2 v b) = (x ⟨v.val * 128 + b.val, by have := v.isLt; have := b.isLt; omega⟩ : EReal))
    (hg : ∑ a : Fin 32, ∑ b : Fin 16, g (ix2 a b) = (G : EReal)) (hu : ∑ a : Fin 32, ∑ b : Fin 16, u (ix2 a b) = (U : EReal)) :
    total Y g u = (((U * (hi * Real.log hi - lo * Real.log lo) + 12800000 * (lo * Real.log lo) - lo * ∑ j, x j - (hi - lo) * G)
      * (1 / 128) : ℝ) : EReal) := by
  have h := acc_apply Y
  have hs := sum_blocks Y x hY
  simp only [← h] at hs
  unfold total
  generalize acc19 Y = A at *
  generalize k1_pay7 (block Y 19) = B at *
  rw [EReal.coe_mul, ← Ideal.div_coe (by norm_num), EReal.coe_sub, EReal.coe_sub, EReal.coe_add, EReal.coe_mul U, EReal.coe_mul lo (∑ j, x j),
    EReal.coe_mul (hi - lo), ← hg, ← hu, ← named_uniq, ← named_ent, ← named_diff, ← bits_lo, ← bits_128, ← hs]
  pointwise [k1_pay1]

end Cert.Proof
-- ==== Proof.Reference.lean ====
/-
  What the reference computes, over the ideal numbers. The smoothed target is one number at the labels and another
  elsewhere, both above the floor under the logarithm; the result is the divergence of the target from the output, summed
  over all rows and all vocabulary entries and divided by the number of rows.
-/
module

public import Idealize.ShloMosaic.Lib.Pointwise
public import Idealize.ShloMosaic.Lib.Routing.OpsPair
public import Idealize.ShloMosaic.Lib.Routing.OpsSet
public import Idealize.ShloMosaic.Lib.WordCmp
public import proofs.«01_k».proof.Proof.Gen.ReferenceIdeal.Run
public import proofs.«01_k».proof.Proof.Consts
public import proofs.«01_k».proof.Proof.Distinct

@[expose] public section

noncomputable section

namespace Cert.Proof

open Cert.ReferenceIdeal Cert.ReferenceIdeal.Gen
open Idealize.ShloMosaic Idealize.ShloMosaic.TcCoe Idealize.SL.Sem

/-- Where row `b`'s entry `v` lies in the flattened transposed output. -/
def flat (b : Fin 128) (v : Fin 100000) : Fin 12800000 := ⟨v.val * 128 + b.val, by have := v.isLt; have := b.isLt; omega⟩

/-- The output's real numbers, as they lie in the flattened transposed output. -/
def reals (O : FVec Ideal S128x100000 .f32) (k : Fin 12800000) : ℝ :=
  (O (ix2 ⟨k.val % 128, Nat.mod_lt _ (by decide)⟩ ⟨k.val / 128, by have := k.isLt; omega⟩)).toReal

theorem reals_flat (O : FVec Ideal S128x100000 .f32) (hO : ∀ p, ((O p).toReal : EReal) = O p) (b : Fin 128) (v : Fin 100000) :
    O (ix2 b v) = (reals O (flat b v) : EReal) := by
  unfold reals flat
  rw [hO]
  have := b.isLt
  exact congrArg O (congrArg₂ ix2 (Fin.ext (by show b.val = (v.val * 128 + b.val) % 128; omega)) (Fin.ext (by show v.val = (v.val * 128 + b.val) / 128; omega)))

/-- The target at a position, given the set of hit positions. -/
def target (K : Finset (Fin 12800000)) (k : Fin 12800000) : ℝ := if k ∈ K then hi else lo

theorem target_pos (K : Finset (Fin 12800000)) (k : Fin 12800000) : 0 < target K k := by
  unfold target hi lo; split <;> norm_num

theorem lo_le_target (K : Finset (Fin 12800000)) (k : Fin 12800000) : lo ≤ target K k := by
  unfold target hi lo; split <;> norm_num

/-- The scatter of the reference: the higher number lands at the labels. -/
theorem scatter_apply (K : Finset (Fin 12800000)) (idx : IVec S128x8x2 32) (lab : Fin 128 → Fin 8 → ℕ)
    (h0 : ∀ b t, (idx (ix3 b t 0)).toInt = b.val) (h1 : ∀ b t, (idx (ix3 b t 1)).toInt = lab b t)
    (hK : ∀ b v, flat b v ∈ K ↔ ∃ t, lab b t = v.val) (A : FVec Ideal S128x100000 .f32) (B : FVec Ideal S128x8 .f32)
    (hA : ∀ p, A p = (lo : EReal)) (hB : ∀ p, B p = (hi : EReal)) (b : Fin 128) (v : Fin 100000) :
    Host.scatter scatter_S128x100000_S128x8x2_S128x8_n_01_01_2 (fun _ b => b) A idx B (ix2 b v) = (target K (flat b v) : EReal) := by
  have hl (r : Fin 128) (t : Fin 8) : scatter_S128x100000_S128x8x2_S128x8_n_01_01_2.resultIdx? (ix2 r t) idx = some (ix2 b v) ↔ r = b ∧ lab r t = v.val := by
    refine (Routing.scatter_lands2 _ rfl rfl rfl idx r t b v).trans ?_
    have e0 := h0 r t
    have e1 := h1 r t
    rw [ix3_eq_valueIdx] at e0 e1
    rw [e0, e1, Nat.cast_inj, Nat.cast_inj, Fin.val_inj]
  unfold target
  split
  · rename_i hk
    obtain ⟨t, ht⟩ := (hK b v).1 hk
    exact Routing.scatter_set_hit _ _ _ _ _ _ (fun k _ => hB k) (ix2 b t) ((hl b t).2 ⟨rfl, ht⟩)
  · rename_i hk
    refine (Routing.scatter_set_miss _ _ _ _ _ fun k hc => hk ((hK b v).2 ?_)).trans (hA _)
    have hk' := (hl (k 0) (k 1)).1 ((congrArg (fun y => scatter_S128x100000_S128x8x2_S128x8_n_01_01_2.resultIdx? y idx) (ix2_eta k)).trans hc)
    exact ⟨k 1, hk'.1 ▸ hk'.2⟩

/-- The divergence over the number of rows, given the hit positions and the output. -/
def divergence (K : Finset (Fin 12800000)) (x : Fin 12800000 → ℝ) : ℝ := (∑ k, target K k * (Real.log (target K k) - x k)) * (1 / 128)

/-- The reference's result, its target given. -/
theorem reference_value (K : Finset (Fin 12800000)) (T : FVec Ideal S128x100000 .f32) (O : FVec Ideal S128x100000 .f32) (x : Fin 12800000 → ℝ)
    (hT : ∀ b v, T (ix2 b v) = (target K (flat b v) : EReal)) (hO : ∀ b v, O (ix2 b v) = (x (flat b v) : EReal)) (j : S_.Idx) :
    Host.divf (Host.reduceAdd (mulf T (subf (Host.log (maximumf (broadcastInDim S128x100000 ![] bcast_S_S128x100000 (constant S_ .f32 0x006CE3EE#32)) T)) O))
        (constant S_ .f32 0x00000000#32) reducesTo_S128x100000_S_d0_1 h_S_) (constant S_ .f32 0x43000000#32) j
      = (((∑ k, target K k * (Real.log (target K k) - x k)) * (1 / 128) : ℝ) : EReal) := by
  have hterm (b : Fin 128) (v : Fin 100000) :
      (target K (flat b v) : EReal) * (Ideal.log (max (Ideal.ofBits .f32 0x006CE3EE#32) (target K (flat b v) : EReal)) - (x (flat b v) : EReal))
        = ((target K (flat b v) * (Real.log (target K (flat b v)) - x (flat b v)) : ℝ) : EReal) := by
    rw [max_eq_right (bits_floor.trans (EReal.coe_le_coe_iff.2 (lo_le_target K _))), Ideal.log_coe, if_neg (not_le.2 (target_pos K _)),
      ← EReal.coe_sub, ← EReal.coe_mul]
  have hsum : ∑ b : Fin 128, ∑ v : Fin 100000, target K (flat b v) * (Real.log (target K (flat b v)) - x (flat b v))
      = ∑ k, target K k * (Real.log (target K k) - x k) := by
    rw [Finset.sum_comm, Fin.sum_univ_tiles 100000 128 rfl]
    rfl
  rw [EReal.coe_mul, ← Ideal.div_coe (by norm_num), ← hsum, coe_sum, ← bits_128]
  simp only [coe_sum, ← hterm]
  pointwise [hT, hO]

/-- An index that is not negative stays as it is. -/
theorem index_word (w c : BitVec 32) (h : w.toNat < 2147483648) :
    (Scalar.select (IntOp.cmpi CmpIPredicate.slt w 0#32) (IntOp.addi w c) w).toInt = w.toNat := by
  have hi : w.toInt = w.toNat := by rw [BitVec.toInt_eq_toNat_cond]; simp only [Nat.reducePow]; omega
  have hs : w.slt 0#32 = false := by
    rw [BitVec.slt_eq_decide, hi]
    simp
  simp [Scalar.select, IntOp.cmpi, hs, hi]

/-- A number that is below infinity, its sign aside, is real. -/
theorem real_of_lt (y : EReal) (h : FloatOps.cmpf (F := Ideal) (φ := .f32) .olt (FloatOps.hostAbsf (F := Ideal) (φ := .f32) y) (FloatOps.ofBits .f32 0x7F800000#32) = 1#1) :
    (y.toReal : EReal) = y := by
  have htop : Ideal.ofBits .f32 0x7F800000#32 = ⊤ := by simp [Ideal.ofBits, Ideal.ieee]
  change Ideal.cmp .olt (max y (-y)) (Ideal.ofBits .f32 0x7F800000#32) = 1#1 at h
  rw [htop] at h
  refine EReal.coe_toReal ?_ ?_
  · rintro rfl; simp [Ideal.cmp] at h
  · rintro rfl; simp [Ideal.cmp] at h

/-- The run of the reference: on labels in range and an output of real numbers its result is the divergence. -/
theorem reference_run (m' : (ℓ : Loc nD τ sig) → Buf (Elt Ideal) ℓ)
    (ρ : Dev nD → PrngReg)
    (K : (d : Dev nD) → Finset (Fin 12800000))
    (hK : ∀ d b v, flat b v ∈ K d ↔ ∃ t : Fin 8, ((m' (d, main_arg3) : IVec S128x8 32) (ix2 b t)).toNat = v.val)
    (hL : ∀ d p, ((m' (d, main_arg3) : IVec S128x8 32) p).toNat < 100000)
    (hO : ∀ d p, (((m' (d, main_arg1) : FVec Ideal S128x100000 .f32) p).toReal : EReal) = (m' (d, main_arg1) : FVec Ideal S128x100000 .f32) p) :
    θ_run (defs (F := Ideal)) (onTc (τ := τ) (main (F := Ideal))) ⟨m', fun _ => 0, ρ⟩ (fun r => ∀ c : Dev nD,
          r.2.mem ((c.tc : Thread nD τ).loc main_v24)
            = (fun _ => (divergence (K c) (reals (m' (c, main_arg1))) : EReal) : FVec Ideal S_ .f32)
          ∧ r.2.mem ((c.tc : Thread nD τ).loc main_arg0) = m' ((c.tc : Thread nD τ).loc main_arg0)
          ∧ r.2.mem ((c.tc : Thread nD τ).loc main_arg1) = m' ((c.tc : Thread nD τ).loc main_arg1)
          ∧ r.2.mem ((c.tc : Thread nD τ).loc main_arg2) = m' ((c.tc : Thread nD τ).loc main_arg2)
          ∧ r.2.mem ((c.tc : Thread nD τ).loc main_arg3) = m' ((c.tc : Thread nD τ).loc main_arg3)) := by
  refine (θ_run defs _ _).mono (fun r h c => ⟨(h c).1.trans (funext fun j => ?_), (h c).2⟩) (Cert.ReferenceIdeal.Value.run (F := Ideal) m' ρ)
  refine reference_value (K c) _ _ (reals (m' (c, main_arg1))) (fun b v => ?_) (reals_flat _ (hO c)) j
  refine scatter_apply (K c) _ (fun b t => ((m' (c, main_arg3) : IVec S128x8 32) (ix2 b t)).toNat) (fun b t => ?_) (fun b t => ?_) (hK c) _ _ (fun p => ?_) (fun p => ?_) b v
  · have hb : (BitVec.ofNat 32 b.val).toNat = b.val := by
      have := b.isLt
      rw [BitVec.toNat_ofNat, Nat.mod_eq_of_lt (by omega)]
    pointwise
    rw [index_word _ _ (by have := b.isLt; omega), hb]
  · have hl := hL c (ix2 b t)
    pointwise
    exact index_word _ _ (lt_trans hl (by decide))
  · exact bits_lo
  · exact bits_hi

end Cert.Proof
-- ==== Proof.Equation.lean ====
/-
  The equation: on labels in range and an output of real numbers, the kernel's result and the reference's are one real
  number, the divergence of the smoothed target from the output over the number of rows.
-/
module

public import proofs.«01_k».proof.Proof.Run
public import proofs.«01_k».proof.Proof.Tables
public import proofs.«01_k».proof.Proof.Total
public import proofs.«01_k».proof.Proof.Reference

@[expose] public section

noncomputable section

namespace Cert.Proof

open Cert.KernelIdeal Cert.KernelIdeal.Gen
open Idealize.ShloMosaic Idealize.ShloMosaic.TcCoe Idealize.SL.Sem

section
variable (m : (ℓ : Loc nD τ sig) → Buf (Elt Ideal) ℓ) (d : Dev nD)

/-- The kernel's arrays, read at an entry: the flattened labels; -/
theorem labFlat_apply (p : Fin 1024) : labFlat m d (ix1 p)
    = (m (d, main_arg3) : IVec S128x8 32) (ix2 ⟨p.val / 8, by have := p.isLt; omega⟩ ⟨p.val % 8, Nat.mod_lt _ (by decide)⟩) := by
  pointwise [labFlat]
/-- the transposed output; -/
theorem outT_apply (v : Fin 100000) (b : Fin 128) : outT m d (ix2 v b) = (m (d, main_arg1) : FVec Ideal S128x100000 .f32) (ix2 b v) := by
  pointwise [outT]
/-- the same flattened. -/
theorem outFlat_apply (k : Fin 12800000) : outFlat m d (ix1 k)
    = outT m d (ix2 ⟨k.val / 128, by have := k.isLt; omega⟩ ⟨k.val % 128, Nat.mod_lt _ (by decide)⟩) := by
  pointwise [outFlat]

/-- The hit positions are those of the labels. -/
theorem mem_hits (hL : ∀ j, (labFlat m d j).toNat < 100000) (b : Fin 128) (v : Fin 100000) :
    flat b v ∈ hits (labFlat m d) hL ↔ ∃ t : Fin 8, ((m (d, main_arg3) : IVec S128x8 32) (ix2 b t)).toNat = v.val := by
  have hkey (p : Fin 1024) : key (labFlat m d) hL p = flat b v ↔ p.val / 8 = b.val ∧ (labFlat m d (ix1 p)).toNat = v.val := by
    have e : at1024 p = ix1 p := by funext a; obtain rfl : a = (0 : Fin 1) := Subsingleton.elim (α := Fin 1) a 0; rfl
    rw [Fin.ext_iff, ← e]
    show 128 * (labFlat m d (at1024 p)).toNat + p.val / 8 = v.val * 128 + b.val ↔ _
    have := p.isLt
    have := b.isLt
    omega
  simp only [hits, Finset.mem_image, Finset.mem_univ, true_and, hkey, labFlat_apply]
  constructor
  · rintro ⟨p, hp, hv⟩
    exact ⟨⟨p.val % 8, Nat.mod_lt _ (by decide)⟩, by rw [← hv]; congr 3; exact Fin.ext hp.symm⟩
  · rintro ⟨t, ht⟩
    have := b.isLt
    have := t.isLt
    refine ⟨⟨b.val * 8 + t.val, by omega⟩, by show (b.val * 8 + t.val) / 8 = _; omega, ?_⟩
    rw [← ht]
    congr 3
    · exact Fin.ext (by show (b.val * 8 + t.val) / 8 = _; omega)
    · exact Fin.ext (by show (b.val * 8 + t.val) % 8 = _; omega)

/-- The kernel's result. -/
theorem kernel_value (hL : ∀ j, (labFlat m d j).toNat < 100000)
    (hO : ∀ p, (((m (d, main_arg1) : FVec Ideal S128x100000 .f32) p).toReal : EReal) = (m (d, main_arg1) : FVec Ideal S128x100000 .f32) p) :
    result m d = fun _ => (divergence (hits (labFlat m d) hL) (reals (m (d, main_arg1))) : EReal) := by
  have hY (v : Fin 100000) (b : Fin 128) : outT m d (ix2 v b) = (reals (m (d, main_arg1)) (flat b v) : EReal) := by
    rw [outT_apply]; exact reals_flat _ hO b v
  have hX (k : Fin 12800000) : outFlat m d (ix1 k) = (reals (m (d, main_arg1)) k : EReal) := by
    rw [outFlat_apply, hY]
    exact congrArg (fun k => (reals (m (d, main_arg1)) k : EReal)) (Fin.ext (by show k.val / 128 * 128 + k.val % 128 = k.val; omega))
  funext j
  refine (show result m d j = total (outT m d) (gTab m d) (uTab m d) from rfl).trans ?_
  rw [total_apply (outT m d) (gTab m d) (uTab m d) (reals (m (d, main_arg1))) _ _ hY (sum_gAll (labFlat m d) hL _ _ hX) (sum_uAll (labFlat m d) hL)]
  unfold divergence target
  rw [divergence_split, Fintype.card_fin, Nat.cast_ofNat]
end

end Cert.Proof
-- ==== Proof.lean ====
/-
  The claim: the frames of the kernel, of its idealization and of the reference, the idealization's named constants, and
  the value, the idealized kernel's one result equal to the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equation

@[expose] public section

noncomputable section

namespace Cert.Proof

open Cert.KernelIdeal Cert.KernelIdeal.Gen
open Idealize.ShloMosaic Idealize.ShloMosaic.TcCoe Idealize.SL.Sem

/-- The shape relations of the value's precondition. -/
instance : Cert.Pre_labels_in_range_output_finite.Facts := ⟨by decide, by decide⟩

/-- The precondition: the labels lie in range, -/
theorem labels_of_pre (m : (ℓ : Loc nD τ sig) → Buf (Elt Ideal) ℓ) (h : Cert.Pre_KernelIdeal_labels_in_range_output_finite m) (d : Dev nD)
    (j : S128x8.Idx) : ((m (d, main_arg3) : IVec S128x8 32) j).toNat < 100000 :=
  word_in_range _ (congrFun (h d).1 j)

/-- and the output is one of real numbers. -/
theorem real_of_pre (m : (ℓ : Loc nD τ sig) → Buf (Elt Ideal) ℓ) (h : Cert.Pre_KernelIdeal_labels_in_range_output_finite m) (d : Dev nD)
    (p : S128x100000.Idx) : (((m (d, main_arg1) : FVec Ideal S128x100000 .f32) p).toReal : EReal) = (m (d, main_arg1) : FVec Ideal S128x100000 .f32) p :=
  real_of_lt _ (congrFun (h d).2 p)

/-- The frame of the idealized kernel on the value's precondition. -/
theorem frame_kernelIdeal_finite : Cert.quiescent_KernelIdeal_pre_labels_in_range_output_finite := fun m ρ hpre =>
  run_frame m ρ (labels_of_pre m hpre)

/-- The frame of the reference: host operations alone, and no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same on the value's precondition. -/
theorem frame_referenceIdeal_finite : Cert.quiescent_ReferenceIdeal_pre_labels_in_range_output_finite := fun m ρ _ =>
  frame_referenceIdeal m ρ trivial

/-- Each named constant has the value its name stands for. -/
theorem preserves : Cert.preserves_Kernel_KernelIdeal :=
  ⟨IdealRules.named_const.statement _ _ _ _ _ rfl, IdealRules.named_const.statement _ _ _ _ _ rfl,
    IdealRules.named_const.statement _ _ _ _ _ rfl⟩

/-- The value: from equal arguments, labels in range and the output real, both programs leave the same result. -/
theorem algebraic : Cert.algebraic_KernelIdeal_ReferenceIdeal_pre_labels_in_range_output_finite := fun m ρ m' ρ' hpre hargs => by
  have hL := labels_of_pre m hpre
  have hO := real_of_pre m hpre
  have e1 (d : Dev nD) := (hargs d).2.1
  have e3 (d : Dev nD) := (hargs d).2.2.2
  have hF (d : Dev nD) (j : S1024.Idx) : (labFlat m d j).toNat < 100000 := hL d _
  refine ⟨fun d => result m d, ?_, ?_⟩
  · exact (θ_run Cert.KernelIdeal.defs _ _).mono
      (fun _ h c => ⟨(h.1 c).2.2.2.2, (h.1 c).1, (h.1 c).2.1, (h.1 c).2.2.1, (h.1 c).2.2.2.1⟩) (run_main m ρ (keys_inside m hL))
  · refine (θ_run Cert.ReferenceIdeal.defs _ _).mono (fun r h c => ⟨(h c).1.trans ?_, (h c).2⟩)
      (reference_run m' ρ' (fun d => hits (labFlat m d) (hF d)) (fun d b v => ?_) (fun d p => ?_) (fun d p => ?_))
    · refine (mem_hits m d (hF d) b v).trans (exists_congr fun t => ?_)
      exact iff_of_eq (congrArg (fun L : IVec S128x8 32 => (L (ix2 b t)).toNat = v.val) (e3 d).symm)
    · exact (congrArg (fun L : IVec S128x8 32 => (L p).toNat < 100000) (e3 d)).mpr (hL d p)
    · exact (congrArg (fun O : FVec Ideal S128x100000 .f32 => ((O p).toReal : EReal) = O p) (e1 d)).mpr (hO d p)
    · exact (congrArg (fun O => ((fun _ => (divergence (hits (labFlat m c) (hF c)) (reals O) : EReal)) : FVec Ideal S_ .f32)) (e1 c)).trans
        (kernel_value m c (hF c) (hO c)).symm

/-- Everything claimed. -/
theorem claim : Cert.Claim :=
  ⟨Cert.Kernel.Gen.facts, Cert.KernelIdeal.Gen.facts, Cert.ReferenceIdeal.Gen.facts, inferInstance, inferInstance,
    frame_kernel, frame_kernelIdeal, frame_kernelIdeal_finite, frame_referenceIdeal, frame_referenceIdeal_finite, preserves, algebraic⟩

end Cert.Proof

end
